-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_finite [hPre_finite : Cert.Pre_finite.Facts] (m : (ℓ : Loc Cert.KernelIdeal.nD Cert.KernelIdeal.τ Cert.KernelIdeal.sig) → Buf (Elt Ideal) ℓ) : Prop :=
  ∀ c : Dev Cert.KernelIdeal.nD,
    (Cert.Pre_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3))) = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_finite [hPre_finite : Cert.Pre_finite.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3))) = (fun _ => 1#1)

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ r.2.sem = fun _ => 0)

def quiescent_KernelIdeal_pre_finite [hKernelIdeal : Cert.KernelIdeal.Facts] [hPre_finite : Cert.Pre_finite.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_finite m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3))
      ∧ r.2.sem = fun _ => 0)

def quiescent_ReferenceIdeal_pre_finite [hReferenceIdeal : Cert.ReferenceIdeal.Facts] [hPre_finite : Cert.Pre_finite.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_finite m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3))
      ∧ r.2.sem = fun _ => 0)

def preserves_Kernel_KernelIdeal : Prop :=
  IdealRules.named_const.Statement Cert.KernelIdeal.κ "inv925" .f32 0x3A8DB310#32 ((1 / 925 : ℝ) : EReal)
  ∧ IdealRules.named_const.Statement Cert.KernelIdeal.κ "inv75" .f32 0x3C5A740E#32 ((1 / 75 : ℝ) : EReal)
  ∧ IdealRules.named_const.Statement Cert.KernelIdeal.κ "inv15" .f32 0x3D888889#32 ((1 / 15 : ℝ) : EReal)
  ∧ IdealRules.named_const.Statement Cert.KernelIdeal.κ "inv10" .f32 0x3DCCCCCD#32 ((1 / 10 : ℝ) : EReal)
  ∧ IdealRules.named_const.Statement Cert.KernelIdeal.κ "inv150" .f32 0x3BDA740E#32 ((1 / 150 : ℝ) : EReal)
  ∧ IdealRules.named_const.Statement Cert.KernelIdeal.κ "inv800" .f32 0x3AA3D70A#32 ((1 / 800 : ℝ) : EReal)

def algebraic_KernelIdeal_ReferenceIdeal_pre_finite [hKernelIdeal : Cert.KernelIdeal.Facts] [hReferenceIdeal : Cert.ReferenceIdeal.Facts] [hPre_finite : Cert.Pre_finite.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_finite m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)) →
    ∃ (v0 : (c : Dev Cert.KernelIdeal.nD) → Buf (Elt Ideal) ((c.tc : Thread Cert.KernelIdeal.nD Cert.KernelIdeal.τ).loc Cert.KernelIdeal.main_v7)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v7) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v102) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3))

def Claim : Prop :=
  ∃ (hKernel : Cert.Kernel.Facts) (hKernelIdeal : Cert.KernelIdeal.Facts) (hReferenceIdeal : Cert.ReferenceIdeal.Facts) (hPre_finite : Cert.Pre_finite.Facts),
    quiescent_Kernel (hKernel := hKernel)
    ∧ quiescent_KernelIdeal (hKernelIdeal := hKernelIdeal)
    ∧ quiescent_KernelIdeal_pre_finite (hKernelIdeal := hKernelIdeal) (hPre_finite := hPre_finite)
    ∧ quiescent_ReferenceIdeal (hReferenceIdeal := hReferenceIdeal)
    ∧ quiescent_ReferenceIdeal_pre_finite (hReferenceIdeal := hReferenceIdeal) (hPre_finite := hPre_finite)
    ∧ preserves_Kernel_KernelIdeal
    ∧ algebraic_KernelIdeal_ReferenceIdeal_pre_finite (hKernelIdeal := hKernelIdeal) (hReferenceIdeal := hReferenceIdeal) (hPre_finite := hPre_finite)
-- ==== Pre_finite.lean ====
abbrev S2x1x96x96x96 : Shape := ⟨5, ![2, 1, 96, 96, 96]⟩
abbrev S9x64x16 : Shape := ⟨3, ![9, 64, 16]⟩
abbrev S768x1024 : Shape := ⟨2, ![768, 1024]⟩
abbrev S768 : Shape := ⟨1, ![768]⟩
abbrev S_ : Shape := ⟨0, ![]⟩

class Facts : Prop where
  bcast_S_S9x64x16 : S_.BroadcastsInDim S9x64x16 (![] : Fin 0 → Fin S9x64x16.rank)
  reducesTo_S9x64x16_S_d0_1_2 : S9x64x16.ReducesTo [0, 1, 2] S_
  h_S_ : 0 < S_.numel
  bcast_S_S768x1024 : S_.BroadcastsInDim S768x1024 (![] : Fin 0 → Fin S768x1024.rank)
  reducesTo_S768x1024_S_d0_1 : S768x1024.ReducesTo [0, 1] S_

variable [Facts]

def fn {F : FTy → Type} [FloatOps F] (main_arg0 : FVec F S2x1x96x96x96 .f32) (main_arg1 : FVec F S9x64x16 .f32) (main_arg2 : FVec F S768x1024 .f32) (main_arg3 : FVec F S768 .f32) : IVec S_ 1 :=
  let main_v0 : FVec F S9x64x16 .f32 := Host.absf main_arg1
  let main_cst : FVec F S_ .f32 := constant S_ .f32 0x7F800000#32
  let main_v1 : FVec F S9x64x16 .f32 := broadcastInDim S9x64x16 ![] bcast_S_S9x64x16 main_cst
  let main_v2 : IVec S9x64x16 1 := cmpf .olt main_v0 main_v1
  let main_c : IVec S_ 1 := constantI S_ 1 1#1
  let main_v3 : IVec S_ 1 := (fun x v => Host.reduce IntOp.andi x v reducesTo_S9x64x16_S_d0_1_2 h_S_) main_v2 main_c
  let main_v4 : FVec F S768x1024 .f32 := Host.absf main_arg2
  let main_cst_0 : FVec F S_ .f32 := constant S_ .f32 0x7F800000#32
  let main_v5 : FVec F S768x1024 .f32 := broadcastInDim S768x1024 ![] bcast_S_S768x1024 main_cst_0
  let main_v6 : IVec S768x1024 1 := cmpf .olt main_v4 main_v5
  let main_c_1 : IVec S_ 1 := constantI S_ 1 1#1
  let main_v7 : IVec S_ 1 := (fun x v => Host.reduce IntOp.andi x v reducesTo_S768x1024_S_d0_1 h_S_) main_v6 main_c_1
  let main_v8 : IVec S_ 1 := andi main_v3 main_v7
  main_v8
-- ==== Kernel.lean ====
abbrev S2x1x96x96x96 : Shape := ⟨5, ![2, 1, 96, 96, 96]⟩
abbrev S9x64x16 : Shape := ⟨3, ![9, 64, 16]⟩
abbrev S768x1024 : Shape := ⟨2, ![768, 1024]⟩
abbrev S768 : Shape := ⟨1, ![768]⟩
abbrev S2x24x4x24x4x24x4 : Shape := ⟨7, ![2, 24, 4, 24, 4, 24, 4]⟩
abbrev S9x1024 : Shape := ⟨2, ![9, 1024]⟩
abbrev S1024x9 : Shape := ⟨2, ![1024, 9]⟩
abbrev S1024x768 : Shape := ⟨2, ![1024, 768]⟩
abbrev S576x768 : Shape := ⟨2, ![576, 768]⟩
abbrev S1024x1 : Shape := ⟨2, ![1024, 1]⟩
abbrev S64x16x768 : Shape := ⟨3, ![64, 16, 768]⟩
abbrev S64x768 : Shape := ⟨2, ![64, 768]⟩
abbrev S768x1 : Shape := ⟨2, ![768, 1]⟩
abbrev S2x768x13824 : Shape := ⟨3, ![2, 768, 13824]⟩
abbrev S1x2x4x24x4x24x4 : Shape := ⟨7, ![1, 2, 4, 24, 4, 24, 4]⟩
abbrev S1x768x1152 : Shape := ⟨3, ![1, 768, 1152]⟩
abbrev S2x4x24x4x24x4 : Shape := ⟨6, ![2, 4, 24, 4, 24, 4]⟩
abbrev S2x24x24x4x4x4 : Shape := ⟨6, ![2, 24, 24, 4, 4, 4]⟩
abbrev S1152x64 : Shape := ⟨2, ![1152, 64]⟩
abbrev S1152x576 : Shape := ⟨2, ![1152, 576]⟩
abbrev S768x1152 : Shape := ⟨2, ![768, 1152]⟩
abbrev S2x768x24x24x24 : Shape := ⟨5, ![2, 768, 24, 24, 24]⟩

abbrev nBuf : Space → Nat
  | .hbm => 12
  | .vmem => 9
  | .smem => 0
  | _ => 0

abbrev bufTy : (tb : Table) → Fin (tcTables nBuf tb) → BufTy
  | .hbm, ⟨0, _⟩ => ⟨S2x1x96x96x96, .f32⟩
  | .hbm, ⟨1, _⟩ => ⟨S9x64x16, .f32⟩
  | .hbm, ⟨2, _⟩ => ⟨S768x1024, .f32⟩
  | .hbm, ⟨3, _⟩ => ⟨S768, .f32⟩
  | .hbm, ⟨4, _⟩ => ⟨S2x24x4x24x4x24x4, .f32⟩
  | .hbm, ⟨5, _⟩ => ⟨S9x1024, .f32⟩
  | .hbm, ⟨6, _⟩ => ⟨S1024x9, .f32⟩
  | .hbm, ⟨7, _⟩ => ⟨S1024x768, .f32⟩
  | .hbm, ⟨8, _⟩ => ⟨S576x768, .bf16⟩
  | .hbm, ⟨9, _⟩ => ⟨S768x1, .f32⟩
  | .hbm, ⟨10, _⟩ => ⟨S2x768x13824, .f32⟩
  | .hbm, ⟨11, _⟩ => ⟨S2x768x24x24x24, .f32⟩
  | .local _ .vmem, ⟨0, _⟩ => ⟨S1024x9, .f32⟩
  | .local _ .vmem, ⟨1, _⟩ => ⟨S1024x768, .f32⟩
  | .local _ .vmem, ⟨2, _⟩ => ⟨S576x768, .bf16⟩
  | .local _ .vmem, ⟨3, _⟩ => ⟨S1x2x4x24x4x24x4, .f32⟩
  | .local _ .vmem, ⟨4, _⟩ => ⟨S1x2x4x24x4x24x4, .f32⟩
  | .local _ .vmem, ⟨5, _⟩ => ⟨S576x768, .bf16⟩
  | .local _ .vmem, ⟨6, _⟩ => ⟨S768x1, .f32⟩
  | .local _ .vmem, ⟨7, _⟩ => ⟨S1x768x1152, .f32⟩
  | .local _ .vmem, ⟨8, _⟩ => ⟨S1x768x1152, .f32⟩
  | _, _ => ⟨S2x1x96x96x96, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | _, _ => false

abbrev semScoped : Fin 0 → Bool
  | ⟨_, h⟩ => absurd h (Nat.not_lt_zero _)

abbrev dmaSemScoped : Fin 9 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | _ => false

abbrev sig : RefSig :=
  ofTc nBuf bufTy 0 9 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_v7 : Ref sig .tc := ⟨.hbm, 11, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc1_stg0_0 : Ref sig .tc := ⟨.vmem, 3, rfl⟩
abbrev cc1_stg0_1 : Ref sig .tc := ⟨.vmem, 4, rfl⟩
abbrev cc1_stg1_0 : Ref sig .tc := ⟨.vmem, 5, rfl⟩
abbrev cc1_stg2_0 : Ref sig .tc := ⟨.vmem, 6, rfl⟩
abbrev cc1_stg3_0 : Ref sig .tc := ⟨.vmem, 7, rfl⟩
abbrev cc1_stg3_1 : Ref sig .tc := ⟨.vmem, 8, rfl⟩
abbrev cc0_sem0_0 : DmaSem sig := 0
abbrev cc0_sem1_0 : DmaSem sig := 1
abbrev cc0_sem2_0 : DmaSem sig := 2
abbrev cc1_sem0_0 : DmaSem sig := 3
abbrev cc1_sem0_1 : DmaSem sig := 4
abbrev cc1_sem1_0 : DmaSem sig := 5
abbrev cc1_sem2_0 : DmaSem sig := 6
abbrev cc1_sem3_0 : DmaSem sig := 7
abbrev cc1_sem3_1 : DmaSem sig := 8

abbrev nD : Nat := 1
abbrev τ : Topo := Topo.v7x

variable {F : FTy → Type} [FloatOps F]

abbrev grid0 : Pipeline.Grid := .none

abbrev stage0_0 : Fin 1 → Memref sig .tc .vmem S1024x9 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S1024x768 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))

abbrev stage0_2 : Fin 1 → Memref sig .tc .vmem S576x768 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))

abbrev grid1 : Pipeline.Grid := ⟨2, ![2, 12], ![false, false]⟩

def cc1_transform_0 (i : grid1.Coords) : Fin 7 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  let c0_i32_2 : BitVec 32 := 0#32
  let c0_i32_3 : BitVec 32 := 0#32
  let c0_i32_4 : BitVec 32 := 0#32
  ![arg0.toNat, arg1.toNat, c0_i32.toNat, c0_i32_0.toNat, c0_i32_1.toNat, c0_i32_2.toNat, c0_i32_3.toNat]

def cc1_transform_1 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc1_transform_2 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc1_transform_3 (i : grid1.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat, arg1.toNat]

abbrev stage1_0 : Fin 2 → Memref sig .tc .vmem S1x2x4x24x4x24x4 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true, true]

abbrev stage1_1 : Fin 1 → Memref sig .tc .vmem S576x768 .bf16 := fun | 0 => Memref.whole cc1_stg1_0 | ⟨_ + 1, h⟩ => absurd h (Nat.not_lt.2 (Nat.le_add_left _ _))
abbrev sem1_1 : Fin 1 → DmaSem sig := fun | 0 => cc1_sem1_0 | ⟨_ + 1, h⟩ => absurd h (Nat.not_lt.2 (Nat.le_add_left _ _))
abbrev reads1_1 : Fin grid1.rank → Bool := ![false, false]

abbrev stage1_2 : Fin 1 → Memref sig .tc .vmem S768x1 .f32 := fun | 0 => Memref.whole cc1_stg2_0 | ⟨_ + 1, h⟩ => absurd h (Nat.not_lt.2 (Nat.le_add_left _ _))
abbrev sem1_2 : Fin 1 → DmaSem sig := fun | 0 => cc1_sem2_0 | ⟨_ + 1, h⟩ => absurd h (Nat.not_lt.2 (Nat.le_add_left _ _))
abbrev reads1_2 : Fin grid1.rank → Bool := ![false, false]

abbrev stage1_3 : Fin 2 → Memref sig .tc .vmem S1x768x1152 .f32 := fun | 0 => Memref.whole cc1_stg3_0 | 1 => Memref.whole cc1_stg3_1 | ⟨_ + 2, h⟩ => absurd h (Nat.not_lt.2 (Nat.le_add_left _ _))
abbrev sem1_3 : Fin 2 → DmaSem sig := fun | 0 => cc1_sem3_0 | 1 => cc1_sem3_1 | ⟨_ + 2, h⟩ => absurd h (Nat.not_lt.2 (Nat.le_add_left _ _))
abbrev reads1_3 : Fin grid1.rank → Bool := ![true, true]
-- ==== KernelIdeal.lean ====
variable {F : FTy → Type} [FloatOps F] [Named F]
def κ : String → Option EReal := fun
  | "inv10" => some ((1 / 10 : ℝ) : EReal)
  | "inv15" => some ((1 / 15 : ℝ) : EReal)
  | "inv150" => some ((1 / 150 : ℝ) : EReal)
  | "inv75" => some ((1 / 75 : ℝ) : EReal)
  | "inv800" => some ((1 / 800 : ℝ) : EReal)
  | "inv925" => some ((1 / 925 : ℝ) : EReal)
  | _ => none
-- ==== ReferenceIdeal.lean ====
abbrev S2x1x96x96x96 : Shape := ⟨5, ![2, 1, 96, 96, 96]⟩
abbrev S9x64x16 : Shape := ⟨3, ![9, 64, 16]⟩
abbrev S768x1024 : Shape := ⟨2, ![768, 1024]⟩
abbrev S768 : Shape := ⟨1, ![768]⟩
abbrev S_ : Shape := ⟨0, ![]⟩
abbrev S1 : Shape := ⟨1, ![1]⟩
abbrev S9 : Shape := ⟨1, ![9]⟩
abbrev S2x1x24x4x24x4x24x4 : Shape := ⟨8, ![2, 1, 24, 4, 24, 4, 24, 4]⟩
abbrev S2x1x24x24x24x4x4x4 : Shape := ⟨8, ![2, 1, 24, 24, 24, 4, 4, 4]⟩
abbrev S27648x64 : Shape := ⟨2, ![27648, 64]⟩
abbrev S27648x64x1 : Shape := ⟨3, ![27648, 64, 1]⟩
abbrev S1x1x9 : Shape := ⟨3, ![1, 1, 9]⟩
abbrev S27648x64x9 : Shape := ⟨3, ![27648, 64, 9]⟩
abbrev S64 : Shape := ⟨1, ![64]⟩
abbrev S1x64 : Shape := ⟨2, ![1, 64]⟩
abbrev S27648x64x2 : Shape := ⟨3, ![27648, 64, 2]⟩
abbrev S27648x64x16 : Shape := ⟨3, ![27648, 64, 16]⟩
abbrev S27648x1024 : Shape := ⟨2, ![27648, 1024]⟩
abbrev S1024x768 : Shape := ⟨2, ![1024, 768]⟩
abbrev S27648x768 : Shape := ⟨2, ![27648, 768]⟩
abbrev S1x768 : Shape := ⟨2, ![1, 768]⟩
abbrev S2x24x24x24x768 : Shape := ⟨5, ![2, 24, 24, 24, 768]⟩
abbrev S2x768x24x24x24 : Shape := ⟨5, ![2, 768, 24, 24, 24]⟩

abbrev nBuf : Space → Nat
  | .hbm => 146
  | .vmem => 0
  | .smem => 0
  | _ => 0

abbrev hbmTy0_0 (i : Nat) : BufTy := match i % 128 with
  | 0 => ⟨S2x1x96x96x96, .f32⟩
  | 1 => ⟨S9x64x16, .f32⟩
  | 2 => ⟨S768x1024, .f32⟩
  | 3 => ⟨S768, .f32⟩
  | 4 => ⟨S_, .f32⟩
  | 5 => ⟨S_, .f32⟩
  | 6 => ⟨S_, .f32⟩
  | 7 => ⟨S_, .f32⟩
  | 8 => ⟨S_, .f32⟩
  | 9 => ⟨S_, .f32⟩
  | 10 => ⟨S_, .f32⟩
  | 11 => ⟨S_, .f32⟩
  | 12 => ⟨S_, .f32⟩
  | 13 => ⟨S1, .f32⟩
  | 14 => ⟨S1, .f32⟩
  | 15 => ⟨S1, .f32⟩
  | 16 => ⟨S1, .f32⟩
  | 17 => ⟨S1, .f32⟩
  | 18 => ⟨S1, .f32⟩
  | 19 => ⟨S1, .f32⟩
  | 20 => ⟨S1, .f32⟩
  | 21 => ⟨S1, .f32⟩
  | 22 => ⟨S9, .f32⟩
  | 23 => ⟨S2x1x24x4x24x4x24x4, .f32⟩
  | 24 => ⟨S2x1x24x24x24x4x4x4, .f32⟩
  | 25 => ⟨S27648x64, .f32⟩
  | 26 => ⟨S27648x64x1, .f32⟩
  | 27 => ⟨S1x1x9, .f32⟩
  | 28 => ⟨S27648x64x9, .f32⟩
  | 29 => ⟨S27648x64x9, .f32⟩
  | 30 => ⟨S27648x64x9, .i1⟩
  | 31 => ⟨S27648x64x9, .i32⟩
  | 32 => ⟨S_, .i32⟩
  | 33 => ⟨S27648x64, .i32⟩
  | 34 => ⟨S_, .i32⟩
  | 35 => ⟨S27648x64, .i32⟩
  | 36 => ⟨S27648x64, .i32⟩
  | 37 => ⟨S_, .i32⟩
  | 38 => ⟨S_, .i32⟩
  | 39 => ⟨S_, .i32⟩
  | 40 => ⟨S27648x64, .i32⟩
  | 41 => ⟨S27648x64, .i32⟩
  | 42 => ⟨S_, .i32⟩
  | 43 => ⟨S27648x64, .i32⟩
  | 44 => ⟨S27648x64, .i32⟩
  | 45 => ⟨S_, .i32⟩
  | 46 => ⟨S27648x64, .i32⟩
  | 47 => ⟨S27648x64, .i1⟩
  | 48 => ⟨S_, .i32⟩
  | 49 => ⟨S27648x64, .i32⟩
  | 50 => ⟨S27648x64, .i32⟩
  | 51 => ⟨S27648x64, .i32⟩
  | 52 => ⟨S27648x64x1, .i32⟩
  | 53 => ⟨S27648x64, .f32⟩
  | 54 => ⟨S_, .i32⟩
  | 55 => ⟨S27648x64, .i32⟩
  | 56 => ⟨S27648x64, .i32⟩
  | 57 => ⟨S_, .i32⟩
  | 58 => ⟨S27648x64, .i32⟩
  | 59 => ⟨S27648x64, .i1⟩
  | 60 => ⟨S_, .i32⟩
  | 61 => ⟨S27648x64, .i32⟩
  | 62 => ⟨S27648x64, .i32⟩
  | 63 => ⟨S27648x64, .i32⟩
  | 64 => ⟨S27648x64x1, .i32⟩
  | 65 => ⟨S27648x64, .f32⟩
  | 66 => ⟨S27648x64, .f32⟩
  | 67 => ⟨S27648x64, .f32⟩
  | 68 => ⟨S27648x64, .f32⟩
  | 69 => ⟨S1, .f32⟩
  | 70 => ⟨S_, .f32⟩
  | 71 => ⟨S27648x64, .f32⟩
  | 72 => ⟨S27648x64, .i1⟩
  | 73 => ⟨S_, .f32⟩
  | 74 => ⟨S_, .f32⟩
  | 75 => ⟨S27648x64, .f32⟩
  | 76 => ⟨S27648x64, .f32⟩
  | 77 => ⟨S1, .f32⟩
  | 78 => ⟨S_, .f32⟩
  | 79 => ⟨S27648x64, .f32⟩
  | 80 => ⟨S27648x64, .i1⟩
  | 81 => ⟨S_, .f32⟩
  | 82 => ⟨S_, .f32⟩
  | 83 => ⟨S27648x64, .f32⟩
  | 84 => ⟨S27648x64, .f32⟩
  | 85 => ⟨S64, .i32⟩
  | 86 => ⟨S1x64, .i32⟩
  | 87 => ⟨S_, .i32⟩
  | 88 => ⟨S27648x64, .i32⟩
  | 89 => ⟨S27648x64, .i1⟩
  | 90 => ⟨S_, .i32⟩
  | 91 => ⟨S27648x64, .i32⟩
  | 92 => ⟨S27648x64, .i32⟩
  | 93 => ⟨S27648x64, .i32⟩
  | 94 => ⟨S_, .i32⟩
  | 95 => ⟨S1x64, .i32⟩
  | 96 => ⟨S1x64, .i1⟩
  | 97 => ⟨S_, .i32⟩
  | 98 => ⟨S1x64, .i32⟩
  | 99 => ⟨S1x64, .i32⟩
  | 100 => ⟨S1x64, .i32⟩
  | 101 => ⟨S27648x64, .i32⟩
  | 102 => ⟨S27648x64x1, .i32⟩
  | 103 => ⟨S27648x64x1, .i32⟩
  | 104 => ⟨S27648x64x2, .i32⟩
  | 105 => ⟨S27648x64x16, .f32⟩
  | 106 => ⟨S_, .i32⟩
  | 107 => ⟨S27648x64, .i32⟩
  | 108 => ⟨S27648x64, .i32⟩
  | 109 => ⟨S_, .i32⟩
  | 110 => ⟨S27648x64, .i32⟩
  | 111 => ⟨S27648x64, .i1⟩
  | 112 => ⟨S_, .i32⟩
  | 113 => ⟨S27648x64, .i32⟩
  | 114 => ⟨S27648x64, .i32⟩
  | 115 => ⟨S27648x64, .i32⟩
  | 116 => ⟨S_, .i32⟩
  | 117 => ⟨S1x64, .i32⟩
  | 118 => ⟨S1x64, .i1⟩
  | 119 => ⟨S_, .i32⟩
  | 120 => ⟨S1x64, .i32⟩
  | 121 => ⟨S1x64, .i32⟩
  | 122 => ⟨S1x64, .i32⟩
  | 123 => ⟨S27648x64, .i32⟩
  | 124 => ⟨S27648x64x1, .i32⟩
  | 125 => ⟨S27648x64x1, .i32⟩
  | 126 => ⟨S27648x64x2, .i32⟩
  | 127 => ⟨S27648x64x16, .f32⟩
  | _ => ⟨S2x1x96x96x96, .f32⟩

abbrev hbmTy0_1 (i : Nat) : BufTy := match i % 128 with
  | 0 => ⟨S27648x64x1, .f32⟩
  | 1 => ⟨S27648x64x16, .f32⟩
  | 2 => ⟨S27648x64x16, .f32⟩
  | 3 => ⟨S27648x64x1, .f32⟩
  | 4 => ⟨S_, .f32⟩
  | 5 => ⟨S27648x64x1, .f32⟩
  | 6 => ⟨S27648x64x1, .f32⟩
  | 7 => ⟨S27648x64x16, .f32⟩
  | 8 => ⟨S27648x64x16, .f32⟩
  | 9 => ⟨S27648x64x16, .f32⟩
  | 10 => ⟨S27648x1024, .f32⟩
  | 11 => ⟨S1024x768, .f32⟩
  | 12 => ⟨S27648x768, .f32⟩
  | 13 => ⟨S1x768, .f32⟩
  | 14 => ⟨S27648x768, .f32⟩
  | 15 => ⟨S27648x768, .f32⟩
  | 16 => ⟨S2x24x24x24x768, .f32⟩
  | 17 => ⟨S2x768x24x24x24, .f32⟩
  | _ => ⟨S2x1x96x96x96, .f32⟩

abbrev hbmTy (i : Nat) : BufTy := match i / 128 with
  | 0 => hbmTy0_0 i
  | 1 => hbmTy0_1 i
  | _ => ⟨S2x1x96x96x96, .f32⟩

abbrev bufTy : (tb : Table) → Fin (tcTables nBuf tb) → BufTy
  | .hbm, ⟨i, _⟩ => hbmTy i
  | _, _ => ⟨S2x1x96x96x96, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_cst : Ref sig .tc := ⟨.hbm, 4, rfl⟩
abbrev main_cst_0 : Ref sig .tc := ⟨.hbm, 5, rfl⟩
abbrev main_cst_1 : Ref sig .tc := ⟨.hbm, 6, rfl⟩
abbrev main_cst_2 : Ref sig .tc := ⟨.hbm, 7, rfl⟩
abbrev main_cst_3 : Ref sig .tc := ⟨.hbm, 8, rfl⟩
abbrev main_cst_4 : Ref sig .tc := ⟨.hbm, 9, rfl⟩
abbrev main_cst_5 : Ref sig .tc := ⟨.hbm, 10, rfl⟩
abbrev main_cst_6 : Ref sig .tc := ⟨.hbm, 11, rfl⟩
abbrev main_cst_7 : Ref sig .tc := ⟨.hbm, 12, rfl⟩
abbrev main_v0 : Ref sig .tc := ⟨.hbm, 13, rfl⟩
abbrev main_v1 : Ref sig .tc := ⟨.hbm, 14, rfl⟩
abbrev main_v2 : Ref sig .tc := ⟨.hbm, 15, rfl⟩
abbrev main_v3 : Ref sig .tc := ⟨.hbm, 16, rfl⟩
abbrev main_v4 : Ref sig .tc := ⟨.hbm, 17, rfl⟩
abbrev main_v5 : Ref sig .tc := ⟨.hbm, 18, rfl⟩
abbrev main_v6 : Ref sig .tc := ⟨.hbm, 19, rfl⟩
abbrev main_v7 : Ref sig .tc := ⟨.hbm, 20, rfl⟩
abbrev main_v8 : Ref sig .tc := ⟨.hbm, 21, rfl⟩
abbrev main_v9 : Ref sig .tc := ⟨.hbm, 22, rfl⟩
abbrev main_v10 : Ref sig .tc := ⟨.hbm, 23, rfl⟩
abbrev main_v11 : Ref sig .tc := ⟨.hbm, 24, rfl⟩
abbrev main_v12 : Ref sig .tc := ⟨.hbm, 25, rfl⟩
abbrev main_v13 : Ref sig .tc := ⟨.hbm, 26, rfl⟩
abbrev main_v14 : Ref sig .tc := ⟨.hbm, 27, rfl⟩
abbrev main_v15 : Ref sig .tc := ⟨.hbm, 28, rfl⟩
abbrev main_v16 : Ref sig .tc := ⟨.hbm, 29, rfl⟩
abbrev main_v17 : Ref sig .tc := ⟨.hbm, 30, rfl⟩
abbrev main_v18 : Ref sig .tc := ⟨.hbm, 31, rfl⟩
abbrev main_c : Ref sig .tc := ⟨.hbm, 32, rfl⟩
abbrev main_v19 : Ref sig .tc := ⟨.hbm, 33, rfl⟩
abbrev main_c_8 : Ref sig .tc := ⟨.hbm, 34, rfl⟩
abbrev main_v20 : Ref sig .tc := ⟨.hbm, 35, rfl⟩
abbrev main_v21 : Ref sig .tc := ⟨.hbm, 36, rfl⟩
abbrev main_c_9 : Ref sig .tc := ⟨.hbm, 37, rfl⟩
abbrev main_c_10 : Ref sig .tc := ⟨.hbm, 38, rfl⟩
abbrev main_call0_v0 : Ref sig .tc := ⟨.hbm, 39, rfl⟩
abbrev main_call0_v1 : Ref sig .tc := ⟨.hbm, 40, rfl⟩
abbrev main_call0_v2 : Ref sig .tc := ⟨.hbm, 41, rfl⟩
abbrev main_call0_v3 : Ref sig .tc := ⟨.hbm, 42, rfl⟩
abbrev main_call0_v4 : Ref sig .tc := ⟨.hbm, 43, rfl⟩
abbrev main_v22 : Ref sig .tc := ⟨.hbm, 44, rfl⟩
abbrev main_c_11 : Ref sig .tc := ⟨.hbm, 45, rfl⟩
abbrev main_v23 : Ref sig .tc := ⟨.hbm, 46, rfl⟩
abbrev main_v24 : Ref sig .tc := ⟨.hbm, 47, rfl⟩
abbrev main_c_12 : Ref sig .tc := ⟨.hbm, 48, rfl⟩
abbrev main_v25 : Ref sig .tc := ⟨.hbm, 49, rfl⟩
abbrev main_v26 : Ref sig .tc := ⟨.hbm, 50, rfl⟩
abbrev main_v27 : Ref sig .tc := ⟨.hbm, 51, rfl⟩
abbrev main_v28 : Ref sig .tc := ⟨.hbm, 52, rfl⟩
abbrev main_v29 : Ref sig .tc := ⟨.hbm, 53, rfl⟩
abbrev main_c_13 : Ref sig .tc := ⟨.hbm, 54, rfl⟩
abbrev main_v30 : Ref sig .tc := ⟨.hbm, 55, rfl⟩
abbrev main_v31 : Ref sig .tc := ⟨.hbm, 56, rfl⟩
abbrev main_c_14 : Ref sig .tc := ⟨.hbm, 57, rfl⟩
abbrev main_v32 : Ref sig .tc := ⟨.hbm, 58, rfl⟩
abbrev main_v33 : Ref sig .tc := ⟨.hbm, 59, rfl⟩
abbrev main_c_15 : Ref sig .tc := ⟨.hbm, 60, rfl⟩
abbrev main_v34 : Ref sig .tc := ⟨.hbm, 61, rfl⟩
abbrev main_v35 : Ref sig .tc := ⟨.hbm, 62, rfl⟩
abbrev main_v36 : Ref sig .tc := ⟨.hbm, 63, rfl⟩
abbrev main_v37 : Ref sig .tc := ⟨.hbm, 64, rfl⟩
abbrev main_v38 : Ref sig .tc := ⟨.hbm, 65, rfl⟩
abbrev main_v39 : Ref sig .tc := ⟨.hbm, 66, rfl⟩
abbrev main_v40 : Ref sig .tc := ⟨.hbm, 67, rfl⟩
abbrev main_v41 : Ref sig .tc := ⟨.hbm, 68, rfl⟩
abbrev main_v42 : Ref sig .tc := ⟨.hbm, 69, rfl⟩
abbrev main_v43 : Ref sig .tc := ⟨.hbm, 70, rfl⟩
abbrev main_v44 : Ref sig .tc := ⟨.hbm, 71, rfl⟩
abbrev main_v45 : Ref sig .tc := ⟨.hbm, 72, rfl⟩
abbrev main_cst_16 : Ref sig .tc := ⟨.hbm, 73, rfl⟩
abbrev main_call1_v0 : Ref sig .tc := ⟨.hbm, 74, rfl⟩
abbrev main_call1_v1 : Ref sig .tc := ⟨.hbm, 75, rfl⟩
abbrev main_v46 : Ref sig .tc := ⟨.hbm, 76, rfl⟩
abbrev main_v47 : Ref sig .tc := ⟨.hbm, 77, rfl⟩
abbrev main_v48 : Ref sig .tc := ⟨.hbm, 78, rfl⟩
abbrev main_v49 : Ref sig .tc := ⟨.hbm, 79, rfl⟩
abbrev main_v50 : Ref sig .tc := ⟨.hbm, 80, rfl⟩
abbrev main_cst_17 : Ref sig .tc := ⟨.hbm, 81, rfl⟩
abbrev main_call2_v0 : Ref sig .tc := ⟨.hbm, 82, rfl⟩
abbrev main_call2_v1 : Ref sig .tc := ⟨.hbm, 83, rfl⟩
abbrev main_v51 : Ref sig .tc := ⟨.hbm, 84, rfl⟩
abbrev main_v52 : Ref sig .tc := ⟨.hbm, 85, rfl⟩
abbrev main_v53 : Ref sig .tc := ⟨.hbm, 86, rfl⟩
abbrev main_c_18 : Ref sig .tc := ⟨.hbm, 87, rfl⟩
abbrev main_v54 : Ref sig .tc := ⟨.hbm, 88, rfl⟩
abbrev main_v55 : Ref sig .tc := ⟨.hbm, 89, rfl⟩
abbrev main_c_19 : Ref sig .tc := ⟨.hbm, 90, rfl⟩
abbrev main_v56 : Ref sig .tc := ⟨.hbm, 91, rfl⟩
abbrev main_v57 : Ref sig .tc := ⟨.hbm, 92, rfl⟩
abbrev main_v58 : Ref sig .tc := ⟨.hbm, 93, rfl⟩
abbrev main_c_20 : Ref sig .tc := ⟨.hbm, 94, rfl⟩
abbrev main_v59 : Ref sig .tc := ⟨.hbm, 95, rfl⟩
abbrev main_v60 : Ref sig .tc := ⟨.hbm, 96, rfl⟩
abbrev main_c_21 : Ref sig .tc := ⟨.hbm, 97, rfl⟩
abbrev main_v61 : Ref sig .tc := ⟨.hbm, 98, rfl⟩
abbrev main_v62 : Ref sig .tc := ⟨.hbm, 99, rfl⟩
abbrev main_v63 : Ref sig .tc := ⟨.hbm, 100, rfl⟩
abbrev main_v64 : Ref sig .tc := ⟨.hbm, 101, rfl⟩
abbrev main_v65 : Ref sig .tc := ⟨.hbm, 102, rfl⟩
abbrev main_v66 : Ref sig .tc := ⟨.hbm, 103, rfl⟩
abbrev main_v67 : Ref sig .tc := ⟨.hbm, 104, rfl⟩
abbrev main_v68 : Ref sig .tc := ⟨.hbm, 105, rfl⟩
abbrev main_c_22 : Ref sig .tc := ⟨.hbm, 106, rfl⟩
abbrev main_v69 : Ref sig .tc := ⟨.hbm, 107, rfl⟩
abbrev main_v70 : Ref sig .tc := ⟨.hbm, 108, rfl⟩
abbrev main_c_23 : Ref sig .tc := ⟨.hbm, 109, rfl⟩
abbrev main_v71 : Ref sig .tc := ⟨.hbm, 110, rfl⟩
abbrev main_v72 : Ref sig .tc := ⟨.hbm, 111, rfl⟩
abbrev main_c_24 : Ref sig .tc := ⟨.hbm, 112, rfl⟩
abbrev main_v73 : Ref sig .tc := ⟨.hbm, 113, rfl⟩
abbrev main_v74 : Ref sig .tc := ⟨.hbm, 114, rfl⟩
abbrev main_v75 : Ref sig .tc := ⟨.hbm, 115, rfl⟩
abbrev main_c_25 : Ref sig .tc := ⟨.hbm, 116, rfl⟩
abbrev main_v76 : Ref sig .tc := ⟨.hbm, 117, rfl⟩
abbrev main_v77 : Ref sig .tc := ⟨.hbm, 118, rfl⟩
abbrev main_c_26 : Ref sig .tc := ⟨.hbm, 119, rfl⟩
abbrev main_v78 : Ref sig .tc := ⟨.hbm, 120, rfl⟩
abbrev main_v79 : Ref sig .tc := ⟨.hbm, 121, rfl⟩
abbrev main_v80 : Ref sig .tc := ⟨.hbm, 122, rfl⟩
abbrev main_v81 : Ref sig .tc := ⟨.hbm, 123, rfl⟩
abbrev main_v82 : Ref sig .tc := ⟨.hbm, 124, rfl⟩
abbrev main_v83 : Ref sig .tc := ⟨.hbm, 125, rfl⟩
abbrev main_v84 : Ref sig .tc := ⟨.hbm, 126, rfl⟩
abbrev main_v85 : Ref sig .tc := ⟨.hbm, 127, rfl⟩
abbrev main_v86 : Ref sig .tc := ⟨.hbm, 128, rfl⟩
abbrev main_v87 : Ref sig .tc := ⟨.hbm, 129, rfl⟩
abbrev main_v88 : Ref sig .tc := ⟨.hbm, 130, rfl⟩
abbrev main_v89 : Ref sig .tc := ⟨.hbm, 131, rfl⟩
abbrev main_cst_27 : Ref sig .tc := ⟨.hbm, 132, rfl⟩
abbrev main_v90 : Ref sig .tc := ⟨.hbm, 133, rfl⟩
abbrev main_v91 : Ref sig .tc := ⟨.hbm, 134, rfl⟩
abbrev main_v92 : Ref sig .tc := ⟨.hbm, 135, rfl⟩
abbrev main_v93 : Ref sig .tc := ⟨.hbm, 136, rfl⟩
abbrev main_v94 : Ref sig .tc := ⟨.hbm, 137, rfl⟩
abbrev main_v95 : Ref sig .tc := ⟨.hbm, 138, rfl⟩
abbrev main_v96 : Ref sig .tc := ⟨.hbm, 139, rfl⟩
abbrev main_v97 : Ref sig .tc := ⟨.hbm, 140, rfl⟩
abbrev main_v98 : Ref sig .tc := ⟨.hbm, 141, rfl⟩
abbrev main_v99 : Ref sig .tc := ⟨.hbm, 142, rfl⟩
abbrev main_v100 : Ref sig .tc := ⟨.hbm, 143, rfl⟩
abbrev main_v101 : Ref sig .tc := ⟨.hbm, 144, rfl⟩
abbrev main_v102 : Ref sig .tc := ⟨.hbm, 145, rfl⟩

abbrev nD : Nat := 1
abbrev τ : Topo := Topo.v7x

variable {F : FTy → Type} [FloatOps F]
-- ==== Proof.KernelRun.lean ====
module

public import proofs.«01_k».proof.Proof.Gen.KernelIdeal.Frame

@[expose] public section

/-! # The kernel's run, with its result named

The generated frame says that a run leaves the arguments alone.  Here the same launch is read once more, for the
result array as well: it ends at the contents that the last boundary of @main gives it. -/

noncomputable section

namespace Cert.KernelIdeal.Val

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F] [Named F]
variable (m : (ℓ : Loc nD τ sig) → Buf (Elt F) ℓ) (ρ : Dev nD → PrngReg)

set_option backward.isDefEq.respectTransparency.types false in
/-- Every run of the kernel ends with its result array at the contents `W5` of the last boundary, and with its four
    arguments as launched. -/
theorem run : θ_run defs (onTc (τ := τ) (main (F := F))) ⟨m, fun _ => 0, ρ⟩ (fun r => ∀ c : Dev nD,
      r.2.mem ((c.tc : Thread nD τ).loc main_v7) = W5 m ρ c (Proc.devRef .tc main_v7)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)) :=
  Pipeline.θ_run_regions_kit_sems (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp (MT nD τ sig Unit (Elt F) ℕ (UR sig nD τ) ℕ))
            ⊢ BI.own (emb₁ (initOf (Pipeline.cells cfgs cellOf_inj) (Pipeline.launchToks cfgs cellOf_inj))) from .rfl)
        iexact Hu
      iapply (show (BI.emp : sProp (MT nD τ sig Unit (Elt F) ℕ (UR sig nD τ) ℕ)) ⊢ bigSep Finset.univ (fun _ : Dev nD => (BI.emp : sProp (MT nD τ sig Unit (Elt F) ℕ (UR sig nD τ) ℕ))) from by
        rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl, fun c => by
      dsimp only [Pipeline.Seg.post, hseg, Pipeline.HostSeg.ofOps]
      iintro ⟨Hh, Hp, HO⟩
      isplitl [Hh Hp]
      · isplitl [Hh]; · iexact Hh
        iexact Hp
      iexact HO⟩)
    (hinit := by
      refine Pipeline.initEach L lv fun c => ?_
      rw [show unscopedBufs c (fun b => m ((c : Thread nD τ).loc b))
          = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W5 m ρ c b)
    (hfin := fun c s' => by
      iintro ⟨⟨Hh, -⟩, HSI⟩
      unfold StableHlo.held
      imodintro
      iapply (pointsTo_read_all (Pipeline.ucRefs τ sig) (fun b => (((c : Thread nD τ)).1, b)) (W5 m ρ c) s')
      isplitl [Hh] <;> iassumption)
    (hQ := fun s h _ c =>
      ⟨h c _ (mem_uc main_v7 (by decide)),
       (h c _ (mem_uc main_arg0 (by decide))).trans (W5_main_arg0 m ρ c),
       (h c _ (mem_uc main_arg1 (by decide))).trans (W5_main_arg1 m ρ c),
       (h c _ (mem_uc main_arg2 (by decide))).trans (W5_main_arg2 m ρ c),
       (h c _ (mem_uc main_arg3 (by decide))).trans (W5_main_arg3 m ρ c)⟩)

end Cert.KernelIdeal.Val

end
-- ==== Proof.Interp.lean ====
module

public import Mathlib.Data.EReal.Operations
public import Mathlib.Data.Real.Basic
public import Mathlib.Algebra.Order.BigOperators.Group.Finset
public import Mathlib.Order.Interval.Finset.Fin
public import Mathlib.Data.Fin.VecNotation
public import Mathlib.Tactic.Linarith
public import Mathlib.Tactic.FinCases
public import Mathlib.Tactic.NormNum
public import Mathlib.Tactic.Push

@[expose] public section

/-! # Linear interpolation between nine knots, written two ways

The kernel evaluates, at a voxel's value `x`, nine hat functions, one for each knot.  The reference looks up the cell
between two knots in which `x` lies, and the weight of `x` in that cell.  `hat_spec` says that the two agree at every
extended real: each hat is the weight, one minus the weight, or zero.  Nothing here mentions a program. -/

noncomputable section

namespace Cert.Interp

/-- The nine knots. -/
def knot : Fin 9 → ℝ := ![-1000, -75, 0, 15, 25, 40, 50, 200, 1000]

/-- The knot left of each cell. -/
def left : Fin 8 → ℝ := ![-1000, -75, 0, 15, 25, 40, 50, 200]

/-- The knot right of each cell. -/
def right : Fin 8 → ℝ := ![-75, 0, 15, 25, 40, 50, 200, 1000]

theorem knot_castSucc (c : Fin 8) : knot c.castSucc = left c := by fin_cases c <;> rfl

theorem knot_succ (c : Fin 8) : knot c.succ = right c := by fin_cases c <;> rfl

/-- The knots increase. -/
theorem knot_strictMono : StrictMono knot := by
  refine Fin.strictMono_iff_lt_succ.mpr fun i => ?_
  rw [knot_castSucc, knot_succ]
  fin_cases i <;> norm_num [left, right]

/-- A real number as an extended real. -/
abbrev e (r : ℝ) : EReal := (r : EReal)

/-- The nine hats at `x`, as the kernel evaluates them: a ramp down to the left of the second knot, seven tents, and a
    ramp up to the right of the eighth knot. -/
def hat (x : EReal) : Fin 9 → EReal :=
  ![min 1 (max 0 ((e (-75) - x) * e (1 / 925))),
    max (min ((x - e (-1000)) * e (1 / 925)) ((0 - x) * e (1 / 75))) 0,
    max (min ((x - e (-75)) * e (1 / 75)) ((e 15 - x) * e (1 / 15))) 0,
    max (min (x * e (1 / 15)) ((e 25 - x) * e (1 / 10))) 0,
    max (min ((x - e 15) * e (1 / 10)) ((e 40 - x) * e (1 / 15))) 0,
    max (min ((x - e 25) * e (1 / 15)) ((e 50 - x) * e (1 / 10))) 0,
    max (min ((x - e 40) * e (1 / 10)) ((e 200 - x) * e (1 / 150))) 0,
    max (min ((x - e 50) * e (1 / 150)) ((e 1000 - x) * e (1 / 800))) 0,
    min 1 (max 0 ((x - e 200) * e (1 / 800)))]

/-- The same hats over the reals. -/
def hatR (r : ℝ) : Fin 9 → ℝ :=
  ![min 1 (max 0 ((-75 - r) * (1 / 925))),
    max (min ((r - -1000) * (1 / 925)) ((0 - r) * (1 / 75))) 0,
    max (min ((r - -75) * (1 / 75)) ((15 - r) * (1 / 15))) 0,
    max (min (r * (1 / 15)) ((25 - r) * (1 / 10))) 0,
    max (min ((r - 15) * (1 / 10)) ((40 - r) * (1 / 15))) 0,
    max (min ((r - 25) * (1 / 15)) ((50 - r) * (1 / 10))) 0,
    max (min ((r - 40) * (1 / 10)) ((200 - r) * (1 / 150))) 0,
    max (min ((r - 50) * (1 / 150)) ((1000 - r) * (1 / 800))) 0,
    min 1 (max 0 ((r - 200) * (1 / 800)))]

/-- How many knots are at most `x`. -/
def count (x : EReal) : ℕ := (Finset.univ.filter fun k : Fin 9 => e (knot k) ≤ x).card

/-- The cell in which `x` lies: the last knot that is at most `x`, kept between the first and the eighth. -/
def cell (x : EReal) : Fin 8 := ⟨min (count x - 1) 7, by omega⟩

/-- The weight of `x` in its cell: 0 from the first knot down, 1 from the last knot up, else the fraction of the cell
    that lies left of `x`. -/
def weight (x : EReal) : EReal :=
  if x ≤ e (-1000) then 0 else if e 1000 ≤ x then 1
  else (x - e (knot (cell x).castSucc)) * e (1 / (knot (cell x).succ - knot (cell x).castSucc))

/-- What hat `k` is worth where the cell is `c` and the weight in it is `w`. -/
def share (c : Fin 8) (w : ℝ) (k : Fin 9) : ℝ := if k = c.castSucc then 1 - w else if k = c.succ then w else 0

/-- At a real number the hats are the real hats. -/
theorem hat_coe (r : ℝ) (k : Fin 9) : hat (e r) k = e (hatR r k) := by
  have h0 : (0 : EReal) = ((0 : ℝ) : EReal) := rfl
  have h1 : (1 : EReal) = ((1 : ℝ) : EReal) := rfl
  have hmax : ∀ a b : ℝ, max (a : EReal) b = ((max a b : ℝ) : EReal) :=
    fun a b => (Monotone.map_max EReal.coe_strictMono.monotone).symm
  have hmin : ∀ a b : ℝ, min (a : EReal) b = ((min a b : ℝ) : EReal) :=
    fun a b => (Monotone.map_min EReal.coe_strictMono.monotone).symm
  fin_cases k <;>
    simp only [hat, hatR, e, h0, h1, ← EReal.coe_sub, ← EReal.coe_mul, hmax, hmin] <;> rfl

/-- Between two neighbouring knots the cell is the one between them. -/
theorem cell_eq (r : ℝ) (c : Fin 8) (h₁ : knot c.castSucc ≤ r) (h₂ : r < knot c.succ) : cell (e r) = c := by
  have hiff : ∀ k : Fin 9, e (knot k) ≤ e r ↔ k ≤ c.castSucc := fun k => by
    rw [EReal.coe_le_coe_iff]
    constructor
    · intro h
      by_contra hk
      exact absurd (lt_of_lt_of_le h₂ (knot_strictMono.monotone (Fin.castSucc_lt_iff_succ_le.mp (not_le.mp hk)))) (not_lt.mpr h)
    · intro h
      exact (knot_strictMono.monotone h).trans h₁
  have hc : count (e r) = c.val + 1 := by
    unfold count
    simp only [hiff]
    clear hiff h₁ h₂
    revert c; decide
  apply Fin.ext
  simp only [cell, hc]
  omega

/-- From the last knot up the cell is the last one. -/
theorem cell_top (x : EReal) (h : e 1000 ≤ x) : cell x = 7 := by
  have hc : count x = 9 := by
    unfold count
    rw [Finset.filter_true_of_mem]
    · rfl
    · intro k _
      refine le_trans (EReal.coe_le_coe_iff.mpr ?_) h
      exact (knot_strictMono.monotone (Fin.le_last k)).trans (by norm_num [knot, Fin.last])
  apply Fin.ext
  simp [cell, hc]

/-- Below the first knot the cell is the first one. -/
theorem cell_bot (x : EReal) (h : x < e (-1000)) : cell x = 0 := by
  have hc : count x = 0 := by
    unfold count
    rw [Finset.card_eq_zero, Finset.filter_eq_empty_iff]
    intro k _
    refine not_le.mpr (lt_of_lt_of_le h (EReal.coe_le_coe_iff.mpr ?_))
    exact le_trans (by norm_num [knot]) (knot_strictMono.monotone (Fin.zero_le k))
  apply Fin.ext
  simp [cell, hc]

/-- A real number below the last knot and not below the first lies between two neighbouring knots. -/
theorem exists_cell (r : ℝ) (h₁ : -1000 ≤ r) (h₂ : r < 1000) :
    ∃ c : Fin 8, knot c.castSucc ≤ r ∧ r < knot c.succ := by
  by_contra hn
  push Not at hn
  have up : ∀ k : Fin 9, knot k ≤ r := fun k => by
    induction k using Fin.induction with
    | zero => simpa [knot] using h₁
    | succ i ih => exact hn i ih
  have := up (Fin.last 8)
  norm_num [knot, Fin.last] at this
  linarith

/-- The real hats are given by nine equations. -/
theorem hatR_of {r : ℝ} {f : Fin 9 → ℝ}
    (h0 : min 1 (max 0 ((-75 - r) * (1 / 925))) = f 0)
    (h1 : max (min ((r - -1000) * (1 / 925)) ((0 - r) * (1 / 75))) 0 = f 1)
    (h2 : max (min ((r - -75) * (1 / 75)) ((15 - r) * (1 / 15))) 0 = f 2)
    (h3 : max (min (r * (1 / 15)) ((25 - r) * (1 / 10))) 0 = f 3)
    (h4 : max (min ((r - 15) * (1 / 10)) ((40 - r) * (1 / 15))) 0 = f 4)
    (h5 : max (min ((r - 25) * (1 / 15)) ((50 - r) * (1 / 10))) 0 = f 5)
    (h6 : max (min ((r - 40) * (1 / 10)) ((200 - r) * (1 / 150))) 0 = f 6)
    (h7 : max (min ((r - 50) * (1 / 150)) ((1000 - r) * (1 / 800))) 0 = f 7)
    (h8 : min 1 (max 0 ((r - 200) * (1 / 800))) = f 8) (k : Fin 9) : hatR r k = f k := by
  fin_cases k <;> assumption

/-- A tent whose left side is not positive is 0. -/
theorem tent_zero_left {u v : ℝ} (h : u ≤ 0) : max (min u v) 0 = 0 := max_eq_right ((min_le_left _ _).trans h)

/-- A tent whose right side is not positive is 0. -/
theorem tent_zero_right {u v : ℝ} (h : v ≤ 0) : max (min u v) 0 = 0 := max_eq_right ((min_le_right _ _).trans h)

/-- A tent whose left side is the lower one, and not negative, is its left side. -/
theorem tent_up {u v t : ℝ} (h₀ : 0 ≤ u) (h : u ≤ v) (ht : u = t) : max (min u v) 0 = t := by
  rw [min_eq_left h, max_eq_left h₀, ht]

/-- A tent whose right side is the lower one, and not negative, is its right side. -/
theorem tent_down {u v t : ℝ} (h₀ : 0 ≤ v) (h : v ≤ u) (ht : v = t) : max (min u v) 0 = t := by
  rw [min_eq_right h, max_eq_left h₀, ht]

/-- A ramp below its foot is 0. -/
theorem ramp_zero {u : ℝ} (h : u ≤ 0) : min 1 (max 0 u) = 0 := by
  rw [max_eq_left h]; exact min_eq_right zero_le_one

/-- A ramp above its top is 1. -/
theorem ramp_one {u : ℝ} (h : 1 ≤ u) : min 1 (max 0 u) = 1 := by
  rw [max_eq_right (zero_le_one.trans h)]; exact min_eq_left h

/-- A ramp between its foot and its top is its side. -/
theorem ramp_mid {u t : ℝ} (h₀ : 0 ≤ u) (h₁ : u ≤ 1) (ht : u = t) : min 1 (max 0 u) = t := by
  rw [max_eq_right h₀, min_eq_right h₁, ht]

set_option maxHeartbeats 2000000 in
/-- The hats at a real number between two neighbouring knots, `w` being its weight there. -/
theorem hatR_cell (r w : ℝ) (c : Fin 8) (h₁ : knot c.castSucc ≤ r) (h₂ : r < knot c.succ)
    (hw : w * (knot c.succ - knot c.castSucc) = r - knot c.castSucc) (k : Fin 9) : hatR r k = share c w k := by
  rw [knot_castSucc] at h₁ hw
  rw [knot_succ] at h₂ hw
  fin_cases c <;> norm_num [left, right] at h₁ h₂ hw <;> refine hatR_of ?_ ?_ ?_ ?_ ?_ ?_ ?_ ?_ ?_ k <;>
    simp (decide := true) only [share, if_true, if_false] <;>
    first
    | exact tent_zero_left (by linarith)
    | exact tent_zero_right (by linarith)
    | exact tent_up (by linarith) (by linarith) (by linarith)
    | exact tent_down (by linarith) (by linarith) (by linarith)
    | exact ramp_zero (by linarith)
    | exact ramp_mid (by linarith) (by linarith) (by linarith)

/-- The hats from the last knot up. -/
theorem hatR_high (r : ℝ) (h : 1000 ≤ r) (k : Fin 9) : hatR r k = share 7 1 k := by
  refine hatR_of ?_ ?_ ?_ ?_ ?_ ?_ ?_ ?_ ?_ k <;>
    simp (decide := true) only [share, if_true, if_false, sub_self] <;>
    first
    | exact tent_zero_right (by linarith)
    | exact ramp_zero (by linarith)
    | exact ramp_one (by linarith)

/-- The hats from the first knot down. -/
theorem hatR_low (r : ℝ) (h : r ≤ -1000) (k : Fin 9) : hatR r k = share 0 0 k := by
  refine hatR_of ?_ ?_ ?_ ?_ ?_ ?_ ?_ ?_ ?_ k <;>
    simp (decide := true) only [share, if_true, if_false, sub_zero] <;>
    first
    | exact tent_zero_left (by linarith)
    | exact ramp_zero (by linarith)
    | exact ramp_one (by linarith)

/-- The hats at plus infinity. -/
theorem hat_pinf (k : Fin 9) : hat ⊤ k = e (share 7 1 k) := by
  have T : ∀ r : ℝ, 0 < r → (⊤ : EReal) * r = ⊤ := fun r h => EReal.top_mul_coe_of_pos h
  have B : ∀ r : ℝ, 0 < r → (⊥ : EReal) * r = ⊥ := fun r h => EReal.bot_mul_coe_of_pos h
  fin_cases k <;> simp (decide := true) [hat, share, e, T, B]

/-- The hats at minus infinity. -/
theorem hat_minf (k : Fin 9) : hat ⊥ k = e (share 0 0 k) := by
  have T : ∀ r : ℝ, 0 < r → (⊤ : EReal) * r = ⊤ := fun r h => EReal.top_mul_coe_of_pos h
  have B : ∀ r : ℝ, 0 < r → (⊥ : EReal) * r = ⊥ := fun r h => EReal.bot_mul_coe_of_pos h
  fin_cases k <;> simp (decide := true) [hat, share, e, T, B]

/-- THE AGREEMENT.  At every extended real `x` the weight is a real number `w`, and hat `k` is `1 - w` at the knot left
    of `x`'s cell, `w` at the knot right of it, and 0 at the seven others. -/
theorem hat_spec (x : EReal) : ∃ w : ℝ, weight x = e w ∧ ∀ k, hat x k = e (share (cell x) w k) := by
  by_cases hlo : x ≤ e (-1000)
  · refine ⟨0, by rw [weight, if_pos hlo]; rfl, fun k => ?_⟩
    have hval : hat x k = e (share 0 0 k) := by
      induction x using EReal.rec with
      | bot => exact hat_minf k
      | coe r => rw [hat_coe, hatR_low r (EReal.coe_le_coe_iff.mp hlo)]
      | top => simp at hlo
    have hcell : cell x = 0 := by
      rcases lt_or_eq_of_le hlo with h | h
      · exact cell_bot x h
      · rw [h]; exact cell_eq _ 0 (by norm_num [knot]) (by norm_num [knot])
    rw [hval, hcell]
  · by_cases hhi : e 1000 ≤ x
    · refine ⟨1, by rw [weight, if_neg hlo, if_pos hhi]; rfl, fun k => ?_⟩
      have hval : hat x k = e (share 7 1 k) := by
        induction x using EReal.rec with
        | bot => simp at hlo
        | coe r => rw [hat_coe, hatR_high r (EReal.coe_le_coe_iff.mp hhi)]
        | top => exact hat_pinf k
      rw [hval, cell_top x hhi]
    · induction x using EReal.rec with
      | bot => simp at hlo
      | top => simp at hhi
      | coe r =>
        obtain ⟨c, h₁, h₂⟩ := exists_cell r (le_of_lt (EReal.coe_lt_coe_iff.mp (not_le.mp hlo)))
          (EReal.coe_lt_coe_iff.mp (not_le.mp hhi))
        have hcell := cell_eq r c h₁ h₂
        refine ⟨(r - knot c.castSucc) * (1 / (knot c.succ - knot c.castSucc)), ?_, fun k => ?_⟩
        · simp only [weight, hlo, hhi, if_false, hcell, e, ← EReal.coe_sub, ← EReal.coe_mul]
        · have hne : knot c.succ - knot c.castSucc ≠ 0 :=
            sub_ne_zero.mpr (ne_of_gt (knot_strictMono Fin.castSucc_lt_succ))
          rw [hat_coe, hatR_cell r ((r - knot c.castSucc) * (1 / (knot c.succ - knot c.castSucc))) c h₁ h₂
            (by rw [one_div, inv_mul_cancel_right₀ hne]), hcell]

end Cert.Interp

end
-- ==== Proof.Consts.lean ====
module

public import proofs.«01_k».proof.KernelIdeal
public import proofs.«01_k».proof.Proof.Interp
public import Idealize.ShloMosaic.PureOps.Ideal
public import Idealize.ShloMosaic.PureOps.IdealRules

@[expose] public section

/-! # The literals of the two programs, as real numbers

The words of the float literals that the two programs print, and the six named constants, at the ideal instance. -/

noncomputable section

namespace Cert.Lit

open Idealize.ShloMosaic Cert.Interp

theorem n1000 : Ideal.ofBits .f32 0xC47A0000#32 = e (-1000) := by
  simp [Ideal.ofBits, Ideal.ieee, e, -EReal.coe_mul]; norm_num
theorem n75 : Ideal.ofBits .f32 0xC2960000#32 = e (-75) := by
  simp [Ideal.ofBits, Ideal.ieee, e, -EReal.coe_mul]; norm_num
theorem p15 : Ideal.ofBits .f32 0x41700000#32 = e 15 := by
  simp [Ideal.ofBits, Ideal.ieee, e, -EReal.coe_mul]; norm_num
theorem p25 : Ideal.ofBits .f32 0x41C80000#32 = e 25 := by
  simp [Ideal.ofBits, Ideal.ieee, e, -EReal.coe_mul]; norm_num
theorem p40 : Ideal.ofBits .f32 0x42200000#32 = e 40 := by
  simp [Ideal.ofBits, Ideal.ieee, e, -EReal.coe_mul]; norm_num
theorem p50 : Ideal.ofBits .f32 0x42480000#32 = e 50 := by
  simp [Ideal.ofBits, Ideal.ieee, e, -EReal.coe_mul]; norm_num
theorem p200 : Ideal.ofBits .f32 0x43480000#32 = e 200 := by
  simp [Ideal.ofBits, Ideal.ieee, e, -EReal.coe_mul]; norm_num
theorem p1000 : Ideal.ofBits .f32 0x447A0000#32 = e 1000 := by
  simp [Ideal.ofBits, Ideal.ieee, e, -EReal.coe_mul]; norm_num

theorem inv925 : Named.named (F := Ideal) Cert.KernelIdeal.κ "inv925" (φ := .f32) 0x3A8DB310#32 = e (1 / 925) :=
  IdealRules.named_const.ideal_named_scalar _ _ _ _ rfl
theorem inv75 : Named.named (F := Ideal) Cert.KernelIdeal.κ "inv75" (φ := .f32) 0x3C5A740E#32 = e (1 / 75) :=
  IdealRules.named_const.ideal_named_scalar _ _ _ _ rfl
theorem inv15 : Named.named (F := Ideal) Cert.KernelIdeal.κ "inv15" (φ := .f32) 0x3D888889#32 = e (1 / 15) :=
  IdealRules.named_const.ideal_named_scalar _ _ _ _ rfl
theorem inv10 : Named.named (F := Ideal) Cert.KernelIdeal.κ "inv10" (φ := .f32) 0x3DCCCCCD#32 = e (1 / 10) :=
  IdealRules.named_const.ideal_named_scalar _ _ _ _ rfl
theorem inv150 : Named.named (F := Ideal) Cert.KernelIdeal.κ "inv150" (φ := .f32) 0x3BDA740E#32 = e (1 / 150) :=
  IdealRules.named_const.ideal_named_scalar _ _ _ _ rfl
theorem inv800 : Named.named (F := Ideal) Cert.KernelIdeal.κ "inv800" (φ := .f32) 0x3AA3D70A#32 = e (1 / 800) :=
  IdealRules.named_const.ideal_named_scalar _ _ _ _ rfl

end Cert.Lit

end
-- ==== Proof.MainBlock.lean ====
module

public import proofs.«01_k».proof.Proof.Gen.KernelIdeal.Frame
public import proofs.«01_k».proof.Proof.Consts
public import Idealize.ShloMosaic.Lib.Pipeline.ValueKit
public import Idealize.ShloMosaic.Lib.Pointwise

@[expose] public section

/-! # What one block of the second launch computes

At output channel `o` and patch `n` of the block, the body leaves the sum, over the nine knots `k` and the 64 voxels `p`
of the patch, of the first launch's entry `(64 k + p, o)` times hat `k` at the voxel, plus the channel's bias. -/

set_option maxRecDepth 16384

noncomputable section

namespace Cert.KernelIdeal.Val

open Idealize.ShloMosaic Idealize.ShloMosaic.TcCoe
open Idealize.SL Idealize.SL.Sem
open Cert.KernelIdeal Cert.KernelIdeal.Gen Cert.Interp

/-- Voxel `p` of patch `n` of the block: the patch is `(n / 576, n / 24 % 24, n % 24)`, the voxel in it
    `(p / 16, p / 4 % 4, p % 4)`. -/
theorem voxel_apply (x : Vec Ideal S1x2x4x24x4x24x4 .f32) (n : Fin 1152) (p : Fin 64) :
    k1_pay2 x (ix2 n p) = x (ix7 (n0 := 1) (n1 := 2) (n2 := 4) (n3 := 24) (n4 := 4) (n5 := 24) (n6 := 4) 0 ⟨n / 576, by omega⟩ ⟨p / 16, by omega⟩ ⟨n / 24 % 24, by omega⟩
      ⟨p / 4 % 4, by omega⟩ ⟨n % 24, by omega⟩ ⟨p % 4, by omega⟩) := by
  pointwise [k1_pay2]

theorem hat0_apply (x : Vec Ideal S1x2x4x24x4x24x4 .f32) (y : S1152x64.Idx) : k1_pay3 x y = hat (k1_pay2 x y) 0 := by
  pointwise [k1_pay3]
  rw [Lit.n75, Lit.inv925]; rfl

theorem hat1_apply (x : Vec Ideal S1x2x4x24x4x24x4 .f32) (y : S1152x64.Idx) : k1_pay4 x y = hat (k1_pay2 x y) 1 := by
  pointwise [k1_pay4]
  rw [Lit.n1000, Lit.inv925, Lit.inv75]; rfl

theorem hat2_apply (x : Vec Ideal S1x2x4x24x4x24x4 .f32) (y : S1152x64.Idx) : k1_pay5 x y = hat (k1_pay2 x y) 2 := by
  pointwise [k1_pay5]
  rw [Lit.n75, Lit.p15, Lit.inv75, Lit.inv15]; rfl

theorem hat3_apply (v : FVec Ideal S1152x64 .f32) (y : S1152x64.Idx) : k1_pay7 v k1_pay6 y = hat (v y) 3 := by
  pointwise [k1_pay7, k1_pay6]
  rw [Lit.p25, Lit.inv15, Lit.inv10]; rfl

theorem hat4_apply (v : FVec Ideal S1152x64 .f32) (y : S1152x64.Idx) : k1_pay8 v y = hat (v y) 4 := by
  pointwise [k1_pay8]
  rw [Lit.p15, Lit.p40, Lit.inv10, Lit.inv15]; rfl

theorem hat5_apply (v : FVec Ideal S1152x64 .f32) (y : S1152x64.Idx) : k1_pay9 v y = hat (v y) 5 := by
  pointwise [k1_pay9]
  rw [Lit.p25, Lit.p50, Lit.inv15, Lit.inv10]; rfl

/-- Nine blocks of 64 columns side by side: column `64 k + p` is column `p` of block `k`. -/
theorem concat_apply (f : Fin 9 → FVec Ideal S1152x64 .f32) (n : Fin 1152) (k : Fin 9) (p : Fin 64) :
    concatenate S1152x576 1 [⟨S1152x64, f 0⟩, ⟨S1152x64, f 1⟩, ⟨S1152x64, f 2⟩, ⟨S1152x64, f 3⟩, ⟨S1152x64, f 4⟩,
      ⟨S1152x64, f 5⟩, ⟨S1152x64, f 6⟩, ⟨S1152x64, f 7⟩, ⟨S1152x64, f 8⟩]
      concatenates_S1152x64_S1152x64_S1152x64_S1152x64_S1152x64_S1152x64_S1152x64_S1152x64_S1152x64_S1152x576_d1
      (ix2 n ⟨k * 64 + p, by omega⟩) = f k (ix2 n p) := by
  pointwise
  fin_cases k <;> simp <;> repeat first | rw [dif_neg (by omega)] | rw [dif_pos (by omega)]
  all_goals exact congrArg (f _) (congrArg (ix2 n) (Fin.ext (by simp; try omega)))

/-- The product, the bias and the layout of the block, over any array `A` of hats. -/
theorem product_apply (u : Vec Ideal S576x768 .bf16) (A : FVec Ideal S1152x576 .bf16) (b : Vec Ideal S768x1 .f32)
    (o : Fin 768) (n : Fin 1152) :
    shapeCast S1x768x1152 (addf (matmul dot_S576x768_S1152x576_S768x1152_0_1_1_0_n_n none
        (shapeCast S576x768 u shapeCasts_S576x768_S576x768 : FVec Ideal S576x768 .bf16) A (constant (F := Ideal) S768x1152 .f32 0x00000000#32))
        (broadcastTo S768x1152 (shapeCast S768x1 b shapeCasts_S768x1_S768x1) broadcasts_S768x1_S768x1152))
        shapeCasts_S768x1152_S1x768x1152 (ix3 (n0 := 1) 0 o n)
      = (∑ j : Fin 576, (u (ix2 j o) : EReal) * A (ix2 n j)) + b (ix2 (n1 := 1) o 0) := by
  pointwise

/-- The nine blocks of hats of a block of voxel values. -/
def hats (v : FVec Ideal S1152x64 .f32) (k : Fin 9) : FVec Ideal S1152x64 .f32 := fun y => hat (v y) k

theorem hat6_eq (v : FVec Ideal S1152x64 .f32) :
    maximumf (k1_pay10 v) (broadcast S1152x64 (Scalar.ofBits (F := Ideal) .f32 0x00000000#32)) = hats v 6 := by
  funext y
  pointwise [k1_pay10]
  rw [Lit.p40, Lit.p200, Lit.inv10, Lit.inv150]; rfl

theorem hat7_eq (v : FVec Ideal S1152x64 .f32) :
    maximumf (minimumf
        (mulf (subf v (broadcast S1152x64 (Scalar.ofBits (F := Ideal) .f32 0x42480000#32)))
          (broadcast S1152x64 (Named.named (F := Ideal) κ "inv150" 0x3BDA740E#32)))
        (mulf (subf (broadcast S1152x64 (Scalar.ofBits (F := Ideal) .f32 0x447A0000#32)) v)
          (broadcast S1152x64 (Named.named (F := Ideal) κ "inv800" 0x3AA3D70A#32))))
      (broadcast S1152x64 (Scalar.ofBits (F := Ideal) .f32 0x00000000#32)) = hats v 7 := by
  funext y
  pointwise
  rw [Lit.p50, Lit.p1000, Lit.inv150, Lit.inv800]; rfl

theorem hat8_eq (v : FVec Ideal S1152x64 .f32) :
    minimumf (broadcast S1152x64 (Scalar.ofBits (F := Ideal) .f32 0x3F800000#32))
      (maximumf (broadcast S1152x64 (Scalar.ofBits (F := Ideal) .f32 0x00000000#32))
        (mulf (subf v (broadcast S1152x64 (Scalar.ofBits (F := Ideal) .f32 0x43480000#32)))
          (broadcast S1152x64 (Named.named (F := Ideal) κ "inv800" 0x3AA3D70A#32)))) = hats v 8 := by
  funext y
  pointwise
  rw [Lit.p200, Lit.inv800]; rfl

/-- The payload of the block's only store. -/
theorem payload_apply (x : Vec Ideal S1x2x4x24x4x24x4 .f32) (u : Vec Ideal S576x768 .bf16) (b : Vec Ideal S768x1 .f32)
    (o : Fin 768) (n : Fin 1152) :
    k1_pay1 (k1_pay2 x) (k1_pay3 x) (k1_pay4 x) (k1_pay5 x) (k1_pay7 (k1_pay2 x) k1_pay6) (k1_pay8 (k1_pay2 x))
        (k1_pay9 (k1_pay2 x)) (k1_pay10 (k1_pay2 x)) (Scalar.ofBits .f32 0x00000000#32) u b (ix3 (n0 := 1) 0 o n)
      = (∑ k : Fin 9, ∑ p : Fin 64, (u (ix2 ⟨k * 64 + p, by omega⟩ o) : EReal) * hat (k1_pay2 x (ix2 n p)) k)
        + b (ix2 (n1 := 1) o 0) := by
  have h0 : k1_pay3 x = hats (k1_pay2 x) 0 := funext (hat0_apply x)
  have h1 : k1_pay4 x = hats (k1_pay2 x) 1 := funext (hat1_apply x)
  have h2 : k1_pay5 x = hats (k1_pay2 x) 2 := funext (hat2_apply x)
  have h3 : k1_pay7 (k1_pay2 x) k1_pay6 = hats (k1_pay2 x) 3 := funext (hat3_apply (k1_pay2 x))
  have h4 : k1_pay8 (k1_pay2 x) = hats (k1_pay2 x) 4 := funext (hat4_apply (k1_pay2 x))
  have h5 : k1_pay9 (k1_pay2 x) = hats (k1_pay2 x) 5 := funext (hat5_apply (k1_pay2 x))
  rw [h0, h1, h2, h3, h4, h5]
  generalize k1_pay2 x = v
  unfold k1_pay1
  refine (product_apply u _ b o n).trans ?_
  refine congrArg (· + b (ix2 (n1 := 1) o 0)) ?_
  rw [← Fin.sum_mul_add_fin (S := 9) (n := 64)]
  refine Finset.sum_congr rfl fun k _ => Finset.sum_congr rfl fun p _ => ?_
  refine congrArg ((u (ix2 ⟨k * 64 + p, by omega⟩ o) : EReal) * ·) ?_
  refine Eq.trans ?_ (concat_apply (hats v) n k p)
  rw [← hat6_eq, ← hat7_eq, ← hat8_eq]
  rfl

/-- The block as the body stores it. -/
theorem block_apply (x : Vec Ideal S1x2x4x24x4x24x4 .f32) (u : Vec Ideal S576x768 .bf16) (b : Vec Ideal S768x1 .f32)
    (o : Fin 768) (n : Fin 1152) :
    out1_3 x u b (ix3 (n0 := 1) 0 o n)
      = (∑ k : Fin 9, ∑ p : Fin 64, (u (ix2 ⟨k * 64 + p, by omega⟩ o) : EReal) * hat (k1_pay2 x (ix2 n p)) k)
        + b (ix2 (n1 := 1) o 0) := by
  unfold out1_3 k1_pay11
  frame_out
  exact payload_apply x u b o n

end Cert.KernelIdeal.Val

end
-- ==== Proof.UBlock.lean ====
module

public import proofs.«01_k».proof.Proof.Gen.KernelIdeal.Frame
public import Idealize.ShloMosaic.Lib.Pipeline.ValueKit
public import Idealize.ShloMosaic.Lib.Pointwise

@[expose] public section

/-! # What the first launch computes

Row `64 k + p` and column `o` of its result is the product of the vector of knot `k` at voxel `p` with the sixteen
weights of channel `o` that belong to that voxel. -/

set_option maxRecDepth 16384

noncomputable section

namespace Cert.KernelIdeal.Val

open Idealize.ShloMosaic Idealize.ShloMosaic.TcCoe
open Idealize.SL Idealize.SL.Sem
open Cert.KernelIdeal Cert.KernelIdeal.Gen

/-- The body's product for one knot, whose vectors are the column `c`. -/
theorem product_knot (a : Vec Ideal S1024x768 .f32) (c : Vec Ideal S1024x1 .f32) (p : Fin 64) (o : Fin 768) :
    k0_pay3 a c (ix2 p o) = ∑ v : Fin 16, c (ix2 (n1 := 1) ⟨p.val * 16 + v.val, by omega⟩ 0) * a (ix2 ⟨p.val * 16 + v.val, by omega⟩ o) := by
  pointwise [k0_pay3, k0_pay2]

/-- The product for knot `k`, voxel `p` and channel `o`; `x` holds the vectors with one knot in a column, `a` the weights
    with one channel in a column. -/
def uVal (x : Vec Ideal S1024x9 .f32) (a : Vec Ideal S1024x768 .f32) (k : Fin 9) (p : Fin 64) (o : Fin 768) : EReal :=
  ∑ v : Fin 16, x (ix2 ⟨p.val * 16 + v.val, by omega⟩ k) * a (ix2 ⟨p.val * 16 + v.val, by omega⟩ o)

/-- One of the nine pieces that the body stores: the rows from `64 k` on. -/
theorem piece_apply (x : Vec Ideal S1024x9 .f32) (a : Vec Ideal S1024x768 .f32) (k k' : Fin 9) (p : Fin 64) (o : Fin 768)
    (c : Vec Ideal S1024x1 .f32) (hc : ∀ j : Fin 1024, c (ix2 (n1 := 1) j 0) = x (ix2 j k')) (z : S64x768.Idx)
    (h0 : k.val * 64 + p.val = k'.val * 64 + (z 0).val) (h1 : o.val = (z 1).val) :
    k0_pay3 (View.ld a r0_0) c z = uVal x a k p o := by
  have hz0 : (z 0).val < 64 := (z 0).isLt
  obtain rfl : k = k' := Fin.ext (by omega)
  have hz : z = ix2 p o := funext fun b => Fin.ext (by
    match b with
    | ⟨0, _⟩ => show (z 0).val = p.val; omega
    | ⟨1, _⟩ => exact h1.symm)
  have ha : ∀ (j : Fin 1024) (q : Fin 768), View.ld a r0_0 (ix2 j q) = a (ix2 j q) := fun j q =>
    congrArg a (funext fun b => Fin.ext (by
      match b with
      | ⟨0, _⟩ => show 0 + 1 * j.val = j.val; omega
      | ⟨1, _⟩ => show 0 + 1 * q.val = q.val; omega))
  subst hz
  rw [product_knot]
  exact Finset.sum_congr rfl fun v _ => by rw [hc, ha]

/-- What the first launch's body leaves in its output, at row `64 k + p` and column `o`. -/
theorem u_apply (x : Vec Ideal S1024x9 .f32) (a : Vec Ideal S1024x768 .f32) (k : Fin 9) (p : Fin 64) (o : Fin 768) :
    out0_2 x a (ix2 ⟨k.val * 64 + p.val, by omega⟩ o) = uVal x a k p o := by
  have hl : ∀ (k' : Fin 9) (inb) (j : Fin 1024),
      View.ld x (Rect.unit (s := S1024x9) ![0, k'.val] S1024x1.size inb) (ix2 (n1 := 1) j 0) = x (ix2 j k') := fun k' inb j =>
    congrArg x (funext fun b => Fin.ext (by
      match b with
      | ⟨0, _⟩ => show 0 + 1 * j.val = j.val; omega
      | ⟨1, _⟩ => show k'.val + 1 * 0 = k'.val; omega))
  have e0 : ((ix2 (n0 := 576) (n1 := 768) ⟨k.val * 64 + p.val, by omega⟩ o) 0).val = k.val * 64 + p.val := rfl
  have e1 : ((ix2 (n0 := 576) (n1 := 768) ⟨k.val * 64 + p.val, by omega⟩ o) 1).val = o.val := rfl
  revert e0 e1
  generalize ix2 (n0 := 576) (n1 := 768) ⟨k.val * 64 + p.val, by omega⟩ o = y
  intro e0 e1
  unfold out0_2
  canon_tiles z h
  · exact piece_apply x a k 8 p o _ (hl 8 _) z (by show _ = 8 * 64 + _; omega) (by omega)
  · exact piece_apply x a k 7 p o _ (hl 7 _) z (by show _ = 7 * 64 + _; omega) (by omega)
  · exact piece_apply x a k 6 p o _ (hl 6 _) z (by show _ = 6 * 64 + _; omega) (by omega)
  · exact piece_apply x a k 5 p o _ (hl 5 _) z (by show _ = 5 * 64 + _; omega) (by omega)
  · exact piece_apply x a k 4 p o _ (hl 4 _) z (by show _ = 4 * 64 + _; omega) (by omega)
  · exact piece_apply x a k 3 p o _ (hl 3 _) z (by show _ = 3 * 64 + _; omega) (by omega)
  · exact piece_apply x a k 2 p o _ (hl 2 _) z (by show _ = 2 * 64 + _; omega) (by omega)
  · exact piece_apply x a k 1 p o _ (hl 1 _) z (by show _ = 1 * 64 + _; omega) (by omega)
  · exact piece_apply x a k 0 p o _ (hl 0 _) z (by show _ = 0 * 64 + _; omega) (by omega)

end Cert.KernelIdeal.Val

end
-- ==== Proof.Arrays.lean ====
module

public import proofs.«01_k».proof.Proof.MainBlock
public import proofs.«01_k».proof.Proof.UBlock

@[expose] public section

/-! # What the two launches leave in their arrays

The first launch has one grid point, which writes its whole array.  Each grid point `(b, t)` of the second launch writes
the 1152 patches of sample `b` from patch `1152 t` on. -/

set_option maxRecDepth 16384

noncomputable section

namespace Cert.KernelIdeal.Val

open Idealize.ShloMosaic Idealize.ShloMosaic.TcCoe
open Idealize.SL Idealize.SL.Sem
open Idealize.ShloMosaic.Pipeline (Dat Cfg Window)
open Cert.KernelIdeal Cert.KernelIdeal.Gen Cert.Interp

variable (V : (c : Dev nD) → (b : Ref sig .tc) → Buf (Elt Ideal) ((c : Thread nD τ).loc b)) (c : Dev nD)

/-- The first launch's array. -/
theorem array0 : (dat0 V c).arrAt 2 cfg0.N = out0_2 (F := Ideal) (V c main_v2) (V c main_v3) := by
  refine (dat0 V c).arrAt_eq_of_covers 2 _ (by decide +kernel) fun t hf y => ?_
  have e0 := (by decide +kernel : ∀ t : Fin grid0.N, win0_0.index t = ![0, 0]) t
  have e1 := (by decide +kernel : ∀ t : Fin grid0.N, win0_1.index t = ![0, 0]) t
  have e2 := (by decide +kernel : ∀ t : Fin grid0.N, win0_2.index t = ![0, 0]) t
  have h0 : iblk0 V c 0 t = V c main_v2 := by
    funext z; blk_ext [iblk0, e0]
  have h1 : iblk0 V c 1 t = V c main_v3 := by
    funext z; blk_ext [iblk0, e1]
  blk_simp
  rw [after0_2, h0, h1]
  blk_ext [e2]

/-- The second launch's array, `x` holding the scans cut into patches, `u` the first launch's result and `d` the bias:
    at sample `b`, channel `o` and patch `n` the products of the nine knots, weighted with the hats and summed over the
    voxels, plus the bias. -/
def outVal (x : Vec Ideal S2x24x4x24x4x24x4 .f32) (u : Vec Ideal S576x768 .bf16) (d : Vec Ideal S768x1 .f32)
    (b : Fin 2) (o : Fin 768) (n : Fin 13824) : EReal :=
  (∑ k : Fin 9, ∑ p : Fin 64, (u (ix2 ⟨k * 64 + p, by omega⟩ o) : EReal)
      * hat (x (ix7 (n0 := 2) (n1 := 24) (n2 := 4) (n3 := 24) (n4 := 4) (n5 := 24) (n6 := 4) b ⟨n / 576, by omega⟩
          ⟨p / 16, by omega⟩ ⟨n / 24 % 24, by omega⟩ ⟨p / 4 % 4, by omega⟩ ⟨n % 24, by omega⟩ ⟨p % 4, by omega⟩)) k)
    + d (ix2 (n1 := 1) o 0)

/-- The array as a function of its index. -/
def outArr (x : Vec Ideal S2x24x4x24x4x24x4 .f32) (u : Vec Ideal S576x768 .bf16) (d : Vec Ideal S768x1 .f32) :
    Vec Ideal S2x768x13824 .f32 := fun y => outVal x u d (y 0) (y 1) (y 2)

/-- Equal values have equal hats. -/
theorem mul_hat (u : EReal) (k : Fin 9) {s s' : EReal} (h : s = s') : u * hat s k = u * hat s' k := by rw [h]

/-- The second launch's array. -/
theorem array1 : (dat1 V c).arrAt 3 cfg1.N = outArr (V c main_v0) (V c main_v4) (V c main_v5) := by
  refine (dat1 V c).arrAt_eq_of_covers 3 _ (by decide +kernel) fun t hf y => ?_
  have e0 := (by decide +kernel : ∀ t : Fin grid1.N, win1_0.index t = ![t.val / 12, t.val % 12, 0, 0, 0, 0, 0]) t
  have e1 := (by decide +kernel : ∀ t : Fin grid1.N, win1_1.index t = ![0, 0]) t
  have e2 := (by decide +kernel : ∀ t : Fin grid1.N, win1_2.index t = ![0, 0]) t
  have e3 := (by decide +kernel : ∀ t : Fin grid1.N, win1_3.index t = ![t.val / 12, 0, t.val % 12]) t
  have ht : t.val < 24 := t.isLt
  have h1 : iblk1 V c 1 t = V c main_v4 := by
    funext z; blk_ext [iblk1, e1]
  have h2 : iblk1 V c 2 t = V c main_v5 := by
    funext z; blk_ext [iblk1, e2]
  blk_simp
  rw [after1_3, h1, h2]
  obtain ⟨o, n, rfl⟩ : ∃ (o : Fin 768) (n : Fin 1152), y = ix3 (n0 := 1) 0 o n := ⟨y 1, y 2, funext fun a => Fin.ext (by
    match a with
    | ⟨0, _⟩ => exact Nat.lt_one_iff.1 (y 0).isLt
    | ⟨1, _⟩ => rfl
    | ⟨2, _⟩ => rfl)⟩
  have hy : (win1_3.blk t).view.emb (ix3 (n0 := 1) 0 o n)
      = ix3 (n0 := 2) (n1 := 768) (n2 := 13824) ⟨t.val / 12, by omega⟩ o ⟨t.val % 12 * 1152 + n.val, by omega⟩ :=
    funext fun a => Fin.ext (by
      match a with
      | ⟨0, _⟩ => blk_simp [e3]; exact Nat.add_zero _
      | ⟨1, _⟩ => blk_simp [e3]
      | ⟨2, _⟩ => blk_simp [e3])
  refine (block_apply _ _ _ o n).trans ?_
  refine Eq.trans ?_ (congrArg (outArr (V c main_v0) (V c main_v4) (V c main_v5)) hy).symm
  refine congrArg (fun s : EReal => s + (V c main_v5 (ix2 (n1 := 1) o 0) : EReal)) ?_
  refine Finset.sum_congr rfl fun k _ => Finset.sum_congr rfl fun p _ => ?_
  refine mul_hat _ k ?_
  rw [voxel_apply]
  blk_ext [iblk1, e0]
  · exact Nat.add_zero _
  · exact (by omega : t.val % 12 * 2 + n.val / 576 = (t.val % 12 * 1152 + n.val) / 576)
  · rfl
  · exact (by omega : n.val / 24 % 24 = (t.val % 12 * 1152 + n.val) / 24 % 24)
  · rfl
  · exact (by omega : n.val % 24 = (t.val % 12 * 1152 + n.val) % 24)
  · rfl

end Cert.KernelIdeal.Val

end
-- ==== Proof.KernelValue.lean ====
module

public import proofs.«01_k».proof.Proof.Arrays
public import Idealize.ShloMosaic.Lib.StableHlo.ReadAt

@[expose] public section

/-! # The kernel's result at an index

The contents of the last boundary of @main, read at sample `b`, channel `o` and patch `(d, h, w)`, over the four
arguments as launched. -/

set_option maxRecDepth 16384

noncomputable section

namespace Cert.KernelIdeal.Val

open Idealize.ShloMosaic Idealize.ShloMosaic.TcCoe
open Idealize.SL Idealize.SL.Sem
open Cert.KernelIdeal Cert.KernelIdeal.Gen Cert.Interp

variable (m : (ℓ : Loc nD τ sig) → Buf (Elt Ideal) ℓ) (ρ : Dev nD → PrngReg) (c : Dev nD)

/-- The four arguments. -/
abbrev argX : Vec Ideal S2x1x96x96x96 .f32 := m ((c.tc : Thread nD τ).loc main_arg0)
abbrev argT : Vec Ideal S9x64x16 .f32 := m ((c.tc : Thread nD τ).loc main_arg1)
abbrev argW : Vec Ideal S768x1024 .f32 := m ((c.tc : Thread nD τ).loc main_arg2)
abbrev argB : Vec Ideal S768 .f32 := m ((c.tc : Thread nD τ).loc main_arg3)

/-- The vectors with one knot in a column. -/
theorem vectors_col (p : Fin 64) (v : Fin 16) (k : Fin 9) :
    (W1 m ρ c (Proc.devRef .tc main_v2) : Vec Ideal S1024x9 .f32) (ix2 ⟨p.val * 16 + v.val, by omega⟩ k) = argT m c (ix3 k p v) := by
  after_reads_at
  exact congrArg₂ (fun q r => argT m c (ix3 k q r))
    (Fin.ext (by omega : (p.val * 16 + v.val) / 16 = p.val)) (Fin.ext (by omega : (p.val * 16 + v.val) % 16 = v.val))

/-- The weights with one channel in a column. -/
theorem weights_col (j : Fin 1024) (o : Fin 768) :
    (W1 m ρ c (Proc.devRef .tc main_v3) : Vec Ideal S1024x768 .f32) (ix2 j o) = argW m c (ix2 o j) := by
  after_reads_at

/-- The scans cut into patches. -/
theorem scans_cut (b : Fin 2) (d h w : Fin 24) (i j k : Fin 4) :
    (W3 m ρ c (Proc.devRef .tc main_v0) : Vec Ideal S2x24x4x24x4x24x4 .f32) (ix7 b d i h j w k)
      = argX m c (ix5 (n1 := 1) b 0 ⟨d.val * 4 + i.val, by omega⟩ ⟨h.val * 4 + j.val, by omega⟩ ⟨w.val * 4 + k.val, by omega⟩) := by
  rw [W3_of m ρ c main_v0 (by decide +kernel), W2_of_ne m ρ c main_v0 (by decide +kernel)]
  after_reads_at

/-- The bias as a column. -/
theorem bias_col (o : Fin 768) :
    (W3 m ρ c (Proc.devRef .tc main_v5) : Vec Ideal S768x1 .f32) (ix2 (n1 := 1) o 0) = argB m c (ix1 o) := by
  after_reads_at
  exact congrFun (W2_of_ne m ρ c main_arg3 (by decide +kernel)) _

/-- The first launch's result at the second launch's entry. -/
theorem products (k : Fin 9) (p : Fin 64) (o : Fin 768) :
    (W3 m ρ c (Proc.devRef .tc main_v4) : Vec Ideal S576x768 .bf16) (ix2 ⟨k.val * 64 + p.val, by omega⟩ o)
      = ∑ v : Fin 16, argT m c (ix3 k p v) * argW m c (ix2 o ⟨p.val * 16 + v.val, by omega⟩) := by
  have h2 : (W3 m ρ c (Proc.devRef .tc main_v4) : Vec Ideal S576x768 .bf16)
      = out0_2 (F := Ideal) (V1 m ρ c main_v2) (V1 m ρ c main_v3) :=
    (W3_of m ρ c main_v4 (by decide +kernel)).trans ((W2_arr m ρ c 2).trans (array0 (V1 m ρ) c))
  refine (congrFun h2 _).trans ((u_apply _ _ k p o).trans ?_)
  exact Finset.sum_congr rfl fun v _ => congrArg₂ (fun s t : EReal => s * t) (vectors_col m ρ c p v k) (weights_col m ρ c _ o)

/-- THE KERNEL'S RESULT at an index. -/
theorem result_apply (b : Fin 2) (o : Fin 768) (d h w : Fin 24) :
    (W5 m ρ c (Proc.devRef .tc main_v7) : Vec Ideal S2x768x24x24x24 .f32) (ix5 b o d h w)
      = (∑ k : Fin 9, ∑ p : Fin 64,
          (∑ v : Fin 16, argT m c (ix3 k p v) * argW m c (ix2 o ⟨p.val * 16 + v.val, by omega⟩))
            * hat (argX m c (ix5 (n1 := 1) b 0 ⟨d.val * 4 + p.val / 16, by omega⟩ ⟨h.val * 4 + p.val / 4 % 4, by omega⟩
                ⟨w.val * 4 + p.val % 4, by omega⟩)) k)
        + argB m c (ix1 o) := by
  have h4 := (W4_arr m ρ c 3).trans (array1 (V3 m ρ) c)
  have h7 : (W5 m ρ c (Proc.devRef .tc main_v7) : Vec Ideal S2x768x24x24x24 .f32) (ix5 b o d h w)
      = (W4 m ρ c (Proc.devRef .tc main_v6) : Vec Ideal S2x768x13824 .f32)
          (ix3 b o ⟨d.val * 576 + h.val * 24 + w.val, by omega⟩) := by
    after_reads_at
  have e1 : (d.val * 576 + h.val * 24 + w.val) / 576 = d.val := by omega
  have e2 : (d.val * 576 + h.val * 24 + w.val) / 24 % 24 = h.val := by omega
  have e3 : (d.val * 576 + h.val * 24 + w.val) % 24 = w.val := by omega
  refine h7.trans ((congrFun h4 _).trans ?_)
  refine congrArg₂ (fun s t : EReal => s + t) ?_ (bias_col m ρ c o)
  refine Finset.sum_congr rfl fun k _ => Finset.sum_congr rfl fun p _ => ?_
  refine congrArg₂ (fun s t : EReal => s * t) (products m ρ c k p o) (congrArg (fun t => hat t k) ?_)
  refine Eq.trans ?_ (scans_cut m ρ c b d h w ⟨p.val / 16, by omega⟩ ⟨p.val / 4 % 4, by omega⟩ ⟨p.val % 4, by omega⟩)
  refine congrArg (W3 m ρ c (Proc.devRef .tc main_v0) : Vec Ideal S2x24x4x24x4x24x4 .f32) ?_
  show ix7 b ⟨(d.val * 576 + h.val * 24 + w.val) / 576, _⟩ _ ⟨(d.val * 576 + h.val * 24 + w.val) / 24 % 24, _⟩ _
    ⟨(d.val * 576 + h.val * 24 + w.val) % 24, _⟩ _ = _
  simp only [e1, e2, e3]

end Cert.KernelIdeal.Val

end
-- ==== Proof.Lookups.lean ====
module

public import proofs.«01_k».proof.Proof.Gen.ReferenceIdeal.Read
public import proofs.«01_k».proof.Proof.Interp
public import Idealize.ShloMosaic.Lib.ValueIdx
public import Idealize.ShloMosaic.Lib.StableHlo.Predicate
public import Idealize.ShloMosaic.Lib.Pointwise

@[expose] public section

/-! # The reference's integer operations and table lookups, at an index

The sum of nine comparison bits is the number of bits set; the two lookups read the table at the index words; and the
words of the clipped index are those of the cell. -/

set_option maxRecDepth 16384

noncomputable section

namespace Cert.ReferenceIdeal.Val

open Idealize.ShloMosaic
open Cert.ReferenceIdeal Cert.ReferenceIdeal.Gen Cert.Interp

/-- Summing the widened bits of the last axis counts the bits that are set. -/
theorem count_bits (msk : IVec S27648x64x9 1) (hw : 1 < 32) (h : S27648x64x9.ReducesTo [2] S27648x64) (hu : 0 < S_.numel)
    (r : Fin 27648) (p : Fin 64) :
    Host.reduce IntOp.addi (extui 32 msk hw) (constantI S_ 32 0#32) h hu (ix2 r p)
      = BitVec.ofNat 32 (Finset.univ.filter fun k : Fin 9 => msk (ix3 r p k) = 1#1).card := by
  have h' : S27648x64x9.Reduces [2] S27648x64 := by decide
  have hl : ∀ k : Fin 9, h'.lift (ix2 r p) k = ix3 r p k := fun k => funext fun a => Fin.ext (by
    match a with
    | ⟨0, _⟩ => rfl
    | ⟨1, _⟩ => rfl
    | ⟨2, _⟩ => rfl)
  rw [Host.reduce_eq_fold_single IntOp.addi _ _ h h' hu]
  have hs : ∑ k : Fin 9, ((extui 32 msk hw ∘ h'.lift (ix2 r p)) k).toNat
      = (Finset.univ.filter fun k : Fin 9 => msk (ix3 r p k) = 1#1).card := by
    rw [Finset.card_filter]
    refine Finset.sum_congr rfl fun k _ => ?_
    show (BitVec.setWidth 32 (msk (h'.lift (ix2 r p) k))).toNat = _
    rw [hl, StableHlo.Predicate.toNat_setWidth_bit]
  have hc : (Finset.univ.filter fun k : Fin 9 => msk (ix3 r p k) = 1#1).card ≤ 9 :=
    (Finset.card_le_univ _).trans (by simp)
  apply BitVec.eq_of_toNat_eq
  refine (StableHlo.Predicate.toNat_fold_addi (Finset.univ : Finset (Fin 9)) _ (by rw [hs]; omega)).trans ?_
  rw [hs, BitVec.toNat_ofNat, Nat.mod_eq_of_lt (by omega)]

/-- The lookup in the table of knots reads the entry that the index word names. -/
theorem knots_apply {α : Type} (x : S9.Idx → α) (idx : IVec S27648x64x1 32) (r : Fin 27648) (p : Fin 64) (k : Fin 9)
    (hk : idx (ix3 (n2 := 1) r p 0) = BitVec.ofNat 32 k.val) :
    Host.gather gather_S9_S27648x64x1_S27648x64_n_0_n_n_0_2_1 x idx (ix2 r p) = x (ix1 k) := by
  refine (ValueIdx.gather_take_apply (by decide) gather_S9_S27648x64x1_S27648x64_n_0_n_n_0_2_1_wf x idx (ix2 r p)).trans ?_
  refine congrArg (fun q : Fin 9 => x (ix1 q)) (Fin.ext ?_)
  show min (idx (ValueIdx.takeIdx (ix2 r p))).toInt.toNat (9 - 1) = k.val
  have ht : ValueIdx.takeIdx (ix2 r p) = ix3 (n2 := 1) r p 0 := funext fun a => Fin.ext (by
    match a with
    | ⟨0, _⟩ => rfl
    | ⟨1, _⟩ => rfl
    | ⟨2, _⟩ => rfl)
  have := k.isLt
  rw [ht, hk, StableHlo.Predicate.toInt_ofNat_small _ (by omega)]
  omega

/-- The lookup in the table of vectors reads, of the row and the column that the two index words name, the entry at the
    result's last coordinate. -/
theorem vectors_apply {α : Type} (x : S9x64x16.Idx → α) (idx : IVec S27648x64x2 32) (r : Fin 27648) (p : Fin 64)
    (v : Fin 16) (k : Fin 9) (q : Fin 64) (hk : idx (ix3 (n2 := 2) r p 0) = BitVec.ofNat 32 k.val)
    (hq : idx (ix3 (n2 := 2) r p 1) = BitVec.ofNat 32 q.val) :
    Host.gather gather_S9x64x16_S27648x64x2_S27648x64x16_2_01_n_n_01_2_1116 x idx (ix3 r p v) = x (ix3 k q v) := by
  unfold Host.gather
  refine congrArg x (funext fun a => Fin.ext ?_)
  generalize hd : gather_S9x64x16_S27648x64x2_S27648x64x16_2_01_n_n_01_2_1116 = d
  show d.start (ix3 r p v) idx a + d.batchCoord (ix3 r p v) a + d.offCoord (ix3 r p v) a = (ix3 k q v a).val
  subst hd
  rw [GatherDims.batchCoord_eq_zero _ _ _ List.not_mem_nil, Nat.add_zero]
  have hs : ∀ c : Fin 2, ∀ h : c.val < (gather_S9x64x16_S27648x64x2_S27648x64x16_2_01_n_n_01_2_1116).startIndexMap.length,
      (gather_S9x64x16_S27648x64x2_S27648x64x16_2_01_n_n_01_2_1116).siIdx (ix3 r p v) ⟨c.val, h⟩ = ix3 r p c :=
    fun c h => funext fun b => Fin.ext (by
      match b with
      | ⟨0, _⟩ => rfl
      | ⟨1, _⟩ => rfl
      | ⟨2, _⟩ => rfl)
  have := k.isLt
  have := q.isLt
  have h012 : a = (0 : Fin 3) ∨ a = (1 : Fin 3) ∨ a = (2 : Fin 3) := by
    match a with
    | ⟨0, _⟩ => exact Or.inl rfl
    | ⟨1, _⟩ => exact Or.inr (Or.inl rfl)
    | ⟨2, _⟩ => exact Or.inr (Or.inr rfl)
  rcases h012 with rfl | rfl | rfl
  · rw [GatherDims.offCoord_eq_zero _ _ _ (by decide : (0 : Fin 3) ∉ gather_S9x64x16_S27648x64x2_S27648x64x16_2_01_n_n_01_2_1116.sKept)]
    unfold GatherDims.start
    rw [dif_pos (by decide : (0 : Fin 3) ∈ gather_S9x64x16_S27648x64x2_S27648x64x16_2_01_n_n_01_2_1116.startIndexMap)]
    refine (congrArg (fun w : BitVec 32 => min w.toInt.toNat (9 - 1) + 0) ((congrArg idx (hs 0 (by decide))).trans hk)).trans ?_
    rw [StableHlo.Predicate.toInt_ofNat_small _ (by omega)]
    show min _ _ + 0 = k.val
    omega
  · rw [GatherDims.offCoord_eq_zero _ _ _ (by decide : (1 : Fin 3) ∉ gather_S9x64x16_S27648x64x2_S27648x64x16_2_01_n_n_01_2_1116.sKept)]
    unfold GatherDims.start
    rw [dif_pos (by decide : (1 : Fin 3) ∈ gather_S9x64x16_S27648x64x2_S27648x64x16_2_01_n_n_01_2_1116.startIndexMap)]
    refine (congrArg (fun w : BitVec 32 => min w.toInt.toNat (64 - 1) + 0) ((congrArg idx (hs 1 (by decide))).trans hq)).trans ?_
    rw [StableHlo.Predicate.toInt_ofNat_small _ (by omega)]
    show min _ _ + 0 = q.val
    omega
  · unfold GatherDims.start GatherDims.offCoord
    rw [dif_neg (by decide : (2 : Fin 3) ∉ gather_S9x64x16_S27648x64x2_S27648x64x16_2_01_n_n_01_2_1116.startIndexMap), dif_pos (by decide : (2 : Fin 3) ∈ gather_S9x64x16_S27648x64x2_S27648x64x16_2_01_n_n_01_2_1116.sKept), Nat.zero_add]
    rfl

/-- The word of a count of at most nine, less one, kept between 0 and 7. -/
theorem clip_word (n : ℕ) (hn : n ≤ 9) :
    IntOp.minsi 7#32 (IntOp.maxsi 0#32 (IntOp.subi (BitVec.ofNat 32 n) 1#32)) = BitVec.ofNat 32 (min (n - 1) 7) := by
  have : ∀ k : Fin 10, IntOp.minsi 7#32 (IntOp.maxsi 0#32 (IntOp.subi (BitVec.ofNat 32 k.val) 1#32))
      = BitVec.ofNat 32 (min (k.val - 1) 7) := by decide
  exact this ⟨n, by omega⟩

/-- A word below 9 is not wrapped. -/
theorem wrap_word (k : Fin 9) :
    Scalar.select (IntOp.cmpi .slt (BitVec.ofNat 32 k.val) 0#32) (IntOp.addi (BitVec.ofNat 32 k.val) 9#32) (BitVec.ofNat 32 k.val)
      = BitVec.ofNat 32 k.val := by
  revert k; decide

/-- A word below 64 is not wrapped. -/
theorem wrap_word64 (k : Fin 64) :
    Scalar.select (IntOp.cmpi .slt (BitVec.ofNat 32 k.val) 0#32) (IntOp.addi (BitVec.ofNat 32 k.val) 64#32) (BitVec.ofNat 32 k.val)
      = BitVec.ofNat 32 k.val := by
  revert k; decide

/-- The word of a cell's left knot and one. -/
theorem succ_word (c : Fin 8) : IntOp.addi (BitVec.ofNat 32 c.castSucc.val) 1#32 = BitVec.ofNat 32 c.succ.val := by
  revert c; decide

end Cert.ReferenceIdeal.Val

end
-- ==== Proof.RefCell.lean ====
module

public import proofs.«01_k».proof.Proof.Gen.ReferenceIdeal.Read
public import proofs.«01_k».proof.Proof.Consts
public import proofs.«01_k».proof.Proof.Lookups
public import Idealize.ShloMosaic.Lib.Pointwise
public import Idealize.ShloMosaic.Lib.WordCmp

@[expose] public section

/-! # The reference's cell and weight at a voxel

At every voxel the reference's clipped index is the cell of the voxel's value, and its weight is the weight in that
cell. -/

set_option maxRecDepth 16384

noncomputable section

namespace Cert.ReferenceIdeal.Val

open Idealize.ShloMosaic
open Cert.ReferenceIdeal Cert.ReferenceIdeal.Gen Cert.ReferenceIdeal.Read Cert.Interp

variable (x : (⟨S2x1x96x96x96, .f32⟩ : BufTy).Contents (Elt Ideal)) (r : Fin 27648) (p : Fin 64)

/-- The reference's table holds the nine knots. -/
theorem table_apply (k : Fin 9) : val_main_v9 (F := Ideal) (ix1 k) = e (knot k) := by
  pointwise [val_main_v9, val_main_v0, val_main_v1, val_main_v2, val_main_v3, val_main_v4, val_main_v5, val_main_v6,
    val_main_v7, val_main_v8, val_main_cst, val_main_cst_0, val_main_cst_1, val_main_cst_2, val_main_cst_3,
    val_main_cst_4, val_main_cst_5, val_main_cst_6, val_main_cst_7]
  fin_cases k <;> simp [Lit.n1000, Lit.n75, Lit.p15, Lit.p25, Lit.p40, Lit.p50, Lit.p200, Lit.p1000, knot]

/-- Row `((24 b + d) 24 + h) 24 + w` holds patch `(d, h, w)` of sample `b`; voxel `p` in it is `(p / 16, p / 4 % 4, p % 4)`. -/
theorem patch_apply (b : Fin 2) (d h w : Fin 24) :
    val_main_v12 (F := Ideal) x (ix2 ⟨((b.val * 24 + d.val) * 24 + h.val) * 24 + w.val, by omega⟩ p)
      = x (ix5 (n1 := 1) b 0 ⟨d.val * 4 + p.val / 16, by omega⟩ ⟨h.val * 4 + p.val / 4 % 4, by omega⟩
          ⟨w.val * 4 + p.val % 4, by omega⟩) := by
  pointwise [val_main_v12, val_main_v11, val_main_v10]

/-- The comparison bit of knot `k` is set exactly when the knot is at most the voxel. -/
theorem bit_apply (k : Fin 9) :
    val_main_v17 (F := Ideal) x (ix3 r p k) = 1#1 ↔ e (knot k) ≤ val_main_v12 (F := Ideal) x (ix2 r p) := by
  have h15 : val_main_v15 (F := Ideal) (ix3 r p k) = e (knot k) := by
    rw [← table_apply k]; generalize hy : val_main_v9 (F := Ideal) = y
    pointwise [val_main_v15, val_main_v14, hy]
  have h16 : val_main_v16 (F := Ideal) x (ix3 r p k) = val_main_v12 (F := Ideal) x (ix2 r p) := by
    generalize hy : val_main_v12 (F := Ideal) x = y
    pointwise [val_main_v16, val_main_v13, hy]
  rw [val_main_v17_apply, h15, h16]
  show BitVec.ofBool (decide (_ ≤ _)) = 1#1 ↔ _
  rw [StableHlo.Predicate.ofBool_eq_one_iff, decide_eq_true_eq]

/-- The clipped index is the cell. -/
theorem index_apply :
    val_main_v22 (F := Ideal) x (ix2 r p) = BitVec.ofNat 32 (cell (val_main_v12 (F := Ideal) x (ix2 r p))).castSucc.val := by
  have h19 : val_main_v19 (F := Ideal) x (ix2 r p) = BitVec.ofNat 32 (count (val_main_v12 (F := Ideal) x (ix2 r p))) := by
    refine (count_bits (val_main_v17 (F := Ideal) x) _ _ _ r p).trans ?_
    exact congrArg (fun n => BitVec.ofNat 32 n) (congrArg Finset.card (Finset.filter_congr fun k _ => bit_apply x r p k))
  have hc : count (val_main_v12 (F := Ideal) x (ix2 r p)) ≤ 9 := (Finset.card_le_univ _).trans (by simp)
  refine Eq.trans ?_ (clip_word _ hc)
  rw [← h19]
  generalize hy : val_main_v19 (F := Ideal) x = y
  pointwise [val_main_v22, val_main_call0_v4, val_main_call0_v3, val_main_c_10, val_main_call0_v2, val_main_call0_v1,
    val_main_call0_v0, val_main_c_9, val_main_v21, val_main_v20, val_main_c_8, hy, id_eq]

/-- The index words of the first lookup in the table of knots. -/
theorem left_word :
    val_main_v28 (F := Ideal) x (ix3 (n2 := 1) r p 0) = BitVec.ofNat 32 (cell (val_main_v12 (F := Ideal) x (ix2 r p))).castSucc.val := by
  refine Eq.trans ?_ (wrap_word _)
  rw [← index_apply]
  generalize hy : val_main_v22 (F := Ideal) x = y
  pointwise [val_main_v28, val_main_v27, val_main_v24, val_main_v23, val_main_c_11, val_main_v26, val_main_v25,
    val_main_c_12, hy]

/-- The index words of the second lookup in the table of knots. -/
theorem right_word :
    val_main_v37 (F := Ideal) x (ix3 (n2 := 1) r p 0) = BitVec.ofNat 32 (cell (val_main_v12 (F := Ideal) x (ix2 r p))).succ.val := by
  refine Eq.trans ?_ (wrap_word _)
  rw [← succ_word, ← index_apply]
  generalize hy : val_main_v22 (F := Ideal) x = y
  pointwise [val_main_v37, val_main_v36, val_main_v33, val_main_v32, val_main_c_14, val_main_v35, val_main_v34,
    val_main_c_15, val_main_v31, val_main_v30, val_main_c_13, hy]

/-- The knot left of the voxel's cell. -/
theorem left_apply :
    val_main_v29 (F := Ideal) x (ix2 r p) = e (knot (cell (val_main_v12 (F := Ideal) x (ix2 r p))).castSucc) :=
  (knots_apply _ _ r p _ (left_word x r p)).trans (table_apply _)

/-- The knot right of the voxel's cell. -/
theorem right_apply :
    val_main_v38 (F := Ideal) x (ix2 r p) = e (knot (cell (val_main_v12 (F := Ideal) x (ix2 r p))).succ) :=
  (knots_apply _ _ r p _ (right_word x r p)).trans (table_apply _)

/-- The quotient is the fraction of the cell that lies left of the voxel. -/
theorem fraction_apply :
    val_main_v41 (F := Ideal) x (ix2 r p)
      = (val_main_v12 (F := Ideal) x (ix2 r p) - e (knot (cell (val_main_v12 (F := Ideal) x (ix2 r p))).castSucc))
        * e (1 / (knot (cell (val_main_v12 (F := Ideal) x (ix2 r p))).succ
            - knot (cell (val_main_v12 (F := Ideal) x (ix2 r p))).castSucc)) := by
  rw [val_main_v41_apply, val_main_v39_apply, val_main_v40_apply, left_apply, right_apply]
  generalize val_main_v12 (F := Ideal) x (ix2 r p) = v
  have hne : knot (cell v).succ - knot (cell v).castSucc ≠ 0 :=
    sub_ne_zero.2 (knot_strictMono (Fin.castSucc_lt_succ)).ne'
  show Ideal.div (v - e (knot (cell v).castSucc)) (e (knot (cell v).succ) - e (knot (cell v).castSucc)) = _
  rw [show e (knot (cell v).succ) - e (knot (cell v).castSucc) = ((knot (cell v).succ - knot (cell v).castSucc : ℝ) : EReal) from
    (EReal.coe_sub _ _).symm, Ideal.div_coe hne]

/-- The last knot, broadcast. -/
theorem last_apply : val_main_v44 (F := Ideal) (ix2 r p) = e 1000 := by
  have h := table_apply 8
  generalize hy : val_main_v9 (F := Ideal) = y at h
  refine Eq.trans ?_ h
  pointwise [val_main_v44, val_main_v43, val_main_v42, hy]

/-- The first knot, broadcast. -/
theorem first_apply : val_main_v49 (F := Ideal) (ix2 r p) = e (-1000) := by
  have h := table_apply 0
  generalize hy : val_main_v9 (F := Ideal) = y at h
  refine Eq.trans ?_ h
  pointwise [val_main_v49, val_main_v48, val_main_v47, hy]

/-- The reference's weight at a voxel. -/
theorem weight_apply : val_main_v51 (F := Ideal) x (ix2 r p) = weight (val_main_v12 (F := Ideal) x (ix2 r p)) := by
  have h0 : val_main_call2_v1 (F := Ideal) (ix2 r p) = 0 := by
    pointwise [val_main_call2_v1, val_main_call2_v0, val_main_cst_17, id_eq]
  have h1 : val_main_call1_v1 (F := Ideal) (ix2 r p) = 1 := by
    pointwise [val_main_call1_v1, val_main_call1_v0, val_main_cst_16, id_eq]
  rw [val_main_v51_apply, val_main_v50_apply, val_main_v46_apply, val_main_v45_apply, fraction_apply, last_apply,
    first_apply, h0, h1]
  generalize val_main_v12 (F := Ideal) x (ix2 r p) = v
  unfold weight
  show Scalar.select (BitVec.ofBool (decide (v ≤ e (-1000)))) (0 : EReal)
    (Scalar.select (BitVec.ofBool (decide (e 1000 ≤ v))) 1 _) = _
  rw [WordCmp.select_decide, WordCmp.select_decide]

end Cert.ReferenceIdeal.Val

end
-- ==== Proof.RefValue.lean ====
module

public import proofs.«01_k».proof.Proof.RefCell
public import Idealize.ShloMosaic.Lib.Pipeline.ValueKit

@[expose] public section

/-! # The reference's result at an index

At sample `b`, channel `o` and patch `(d, h, w)` the reference's result is the sum, over the 1024 coordinates of a
patch's vector, of the interpolated vector times the channel's weight, plus the channel's bias. -/

set_option maxRecDepth 16384

noncomputable section

namespace Cert.ReferenceIdeal.Val

open Idealize.ShloMosaic
open Cert.ReferenceIdeal Cert.ReferenceIdeal.Gen Cert.ReferenceIdeal.Read Cert.Interp

variable (x : (⟨S2x1x96x96x96, .f32⟩ : BufTy).Contents (Elt Ideal)) (t : (⟨S9x64x16, .f32⟩ : BufTy).Contents (Elt Ideal))
  (r : Fin 27648) (p : Fin 64) (v : Fin 16)

/-- The column words of the two lookups in the table of vectors: column `p` at voxel `p`. -/
theorem column_word : val_main_v64 (F := Ideal) (ix2 r p) = BitVec.ofNat 32 p.val
    ∧ val_main_v81 (F := Ideal) (ix2 r p) = BitVec.ofNat 32 p.val := by
  constructor <;> refine Eq.trans ?_ (wrap_word64 p)
  · pointwise [val_main_v64, val_main_v63, val_main_v60, val_main_v53, val_main_v52, val_main_v59, val_main_c_20,
      val_main_v62, val_main_v61, val_main_c_21]
  · pointwise [val_main_v81, val_main_v80, val_main_v77, val_main_v53, val_main_v52, val_main_v76, val_main_c_25,
      val_main_v79, val_main_v78, val_main_c_26]

/-- The row words of the lookup at the left knot. -/
theorem left_row :
    val_main_v58 (F := Ideal) x (ix2 r p) = BitVec.ofNat 32 (cell (val_main_v12 (F := Ideal) x (ix2 r p))).castSucc.val := by
  refine Eq.trans ?_ (wrap_word _)
  rw [← index_apply]
  generalize hy : val_main_v22 (F := Ideal) x = y
  pointwise [val_main_v58, val_main_v55, val_main_v54, val_main_c_18, val_main_v57, val_main_v56, val_main_c_19, hy]

/-- The row words of the lookup at the right knot. -/
theorem right_row :
    val_main_v75 (F := Ideal) x (ix2 r p) = BitVec.ofNat 32 (cell (val_main_v12 (F := Ideal) x (ix2 r p))).succ.val := by
  refine Eq.trans ?_ (wrap_word _)
  rw [← succ_word, ← index_apply]
  generalize hy : val_main_v22 (F := Ideal) x = y
  pointwise [val_main_v75, val_main_v72, val_main_v71, val_main_c_23, val_main_v74, val_main_v73, val_main_c_24,
    val_main_v70, val_main_v69, val_main_c_22, hy]

/-- The vector at the left knot of the voxel's cell. -/
theorem left_vector :
    val_main_v68 (F := Ideal) x t (ix3 r p v) = t (ix3 (cell (val_main_v12 (F := Ideal) x (ix2 r p))).castSucc p v) := by
  refine vectors_apply t (val_main_v67 (F := Ideal) x) r p v _ p ?_ ?_
  · rw [← left_row]
    generalize hy : val_main_v58 (F := Ideal) x = y
    generalize hz : val_main_v64 (F := Ideal) = z
    pointwise [val_main_v67, val_main_v65, val_main_v66, hy, hz]
  · rw [← (column_word r p).1]
    generalize hy : val_main_v58 (F := Ideal) x = y
    generalize hz : val_main_v64 (F := Ideal) = z
    pointwise [val_main_v67, val_main_v65, val_main_v66, hy, hz]

/-- The vector at the right knot of the voxel's cell. -/
theorem right_vector :
    val_main_v85 (F := Ideal) x t (ix3 r p v) = t (ix3 (cell (val_main_v12 (F := Ideal) x (ix2 r p))).succ p v) := by
  refine vectors_apply t (val_main_v84 (F := Ideal) x) r p v _ p ?_ ?_
  · rw [← right_row]
    generalize hy : val_main_v75 (F := Ideal) x = y
    generalize hz : val_main_v81 (F := Ideal) = z
    pointwise [val_main_v84, val_main_v82, val_main_v83, hy, hz]
  · rw [← (column_word r p).2]
    generalize hy : val_main_v75 (F := Ideal) x = y
    generalize hz : val_main_v81 (F := Ideal) = z
    pointwise [val_main_v84, val_main_v82, val_main_v83, hy, hz]

/-- The interpolated vector of a voxel with value `a`. -/
def blend (a : EReal) : EReal :=
  weight a * t (ix3 (cell a).succ p v) + (1 - weight a) * t (ix3 (cell a).castSucc p v)

/-- The reference interpolates at every voxel. -/
theorem blend_apply :
    val_main_v94 (F := Ideal) x t (ix3 r p v) = blend t p v (val_main_v12 (F := Ideal) x (ix2 r p)) := by
  have h87 : val_main_v87 (F := Ideal) x (ix3 r p v) = val_main_v51 (F := Ideal) x (ix2 r p) := by
    generalize hy : val_main_v51 (F := Ideal) x = y
    pointwise [val_main_v87, val_main_v86, hy]
  have h92 : val_main_v92 (F := Ideal) x (ix3 r p v) = 1 - val_main_v51 (F := Ideal) x (ix2 r p) := by
    generalize hy : val_main_v51 (F := Ideal) x = y
    pointwise [val_main_v92, val_main_v91, val_main_v90, val_main_cst_27, val_main_v89, hy]
  rw [val_main_v94_apply, val_main_v88_apply, val_main_v93_apply, h87, h92, right_vector, left_vector, weight_apply]
  rfl

/-- Voxel `p` of patch `(d, h, w)` of sample `b`. -/
def voxel (b : Fin 2) (d h w : Fin 24) (p : Fin 64) : EReal :=
  x (ix5 (n1 := 1) b 0 ⟨d.val * 4 + p.val / 16, by omega⟩ ⟨h.val * 4 + p.val / 4 % 4, by omega⟩
    ⟨w.val * 4 + p.val % 4, by omega⟩)

/-- THE REFERENCE'S RESULT at an index. -/
theorem result_apply (W : (⟨S768x1024, .f32⟩ : BufTy).Contents (Elt Ideal)) (c : (⟨S768, .f32⟩ : BufTy).Contents (Elt Ideal))
    (b : Fin 2) (o : Fin 768) (d h w : Fin 24) :
    val_main_v102 (F := Ideal) x t W c (ix5 b o d h w)
      = (∑ p : Fin 64, ∑ v : Fin 16, blend t p v (voxel x b d h w p) * W (ix2 o ⟨p.val * 16 + v.val, by omega⟩)) + c (ix1 o) := by
  have hrow : val_main_v102 (F := Ideal) x t W c (ix5 b o d h w)
      = val_main_v100 (F := Ideal) x t W c (ix2 ⟨((b.val * 24 + d.val) * 24 + h.val) * 24 + w.val, by omega⟩ o) := by
    generalize hy : val_main_v100 (F := Ideal) x t W c = y
    pointwise [val_main_v102, val_main_v101, hy]
    exact congrArg (fun q : Fin 27648 => y (ix2 q o)) (Fin.ext
      (show b.val * 13824 + d.val * 576 + h.val * 24 + w.val = ((b.val * 24 + d.val) * 24 + h.val) * 24 + w.val by omega))
  have h99 : ∀ r : Fin 27648, val_main_v99 (F := Ideal) c (ix2 r o) = c (ix1 o) := fun r => by
    pointwise [val_main_v99, val_main_v98]
  rw [hrow, val_main_v100_apply, h99, val_main_v97_apply]
  refine congrArg (fun s : EReal => s + c (ix1 o)) ?_
  have h95 : ∀ (r : Fin 27648) (p : Fin 64) (v : Fin 16),
      val_main_v95 (F := Ideal) x t (ix2 r ⟨p.val * 16 + v.val, by omega⟩) = blend t p v (val_main_v12 (F := Ideal) x (ix2 r p)) :=
    fun r p v => by
      rw [← blend_apply]
      generalize hy : val_main_v94 (F := Ideal) x t = y
      pointwise [val_main_v95, hy]
  have h96 : ∀ k : Fin 1024, val_main_v96 (F := Ideal) W (ix2 k o) = W (ix2 o k) := fun k => by
    pointwise [val_main_v96]
  have hl : ∀ (r : Fin 27648) (k : Fin 1024), lidx_main_v97 (ix2 r o) k = ix2 r k := fun r k => funext fun a => Fin.ext (by
    match a with
    | ⟨0, _⟩ => rfl
    | ⟨1, _⟩ => rfl)
  have hr : ∀ (r : Fin 27648) (k : Fin 1024), ridx_main_v97 (ix2 r o) k = ix2 k o := fun r k => funext fun a => Fin.ext (by
    match a with
    | ⟨0, _⟩ => rfl
    | ⟨1, _⟩ => rfl)
  refine (Fin.sum_mul_add_fin 64 16 _).symm.trans (Finset.sum_congr rfl fun p _ => Finset.sum_congr rfl fun v _ => ?_)
  rw [hl, hr, h95, h96, patch_apply]
  rfl

end Cert.ReferenceIdeal.Val

end
-- ==== Proof.Equation.lean ====
module

public import proofs.«01_k».proof.Proof.Interp
public import Mathlib.Algebra.BigOperators.Ring.Finset
public import Mathlib.Algebra.BigOperators.Group.Finset.Piecewise
public import Mathlib.Tactic.Ring

@[expose] public section

/-! # The equation

Summing each patch element's interpolated vector against the weights, or summing over the knots the products of the
knots' vectors with the weights, each times the element's hat at the knot, gives the same number, for vectors and
weights that are numbers. -/

noncomputable section

namespace Cert.Interp

/-- The sum over the knots of the shares times a table is the blend of the cell's two ends. -/
theorem share_sum (q : Fin 8) (w : ℝ) (f : Fin 9 → ℝ) :
    ∑ k : Fin 9, f k * share q w k = w * f q.succ + (1 - w) * f q.castSucc := by
  have hne : q.castSucc ≠ q.succ := (Fin.castSucc_lt_succ).ne
  have hsplit : ∀ k : Fin 9, f k * share q w k
      = (if k = q.castSucc then f k * (1 - w) else 0) + (if k = q.succ then f k * w else 0) := by
    intro k
    unfold share
    by_cases h1 : k = q.castSucc
    · subst h1; simp [hne]
    · by_cases h2 : k = q.succ
      · subst h2; simp [hne.symm]
      · simp [h1, h2]
  rw [Finset.sum_congr rfl fun k _ => hsplit k, Finset.sum_add_distrib]
  simp only [Finset.sum_ite_eq', Finset.mem_univ, if_true]
  ring

/-- A finite sum of numbers among the extended reals is the number. -/
theorem e_sum {ι : Type} [Fintype ι] (f : ι → ℝ) : ∑ i, ((f i : ℝ) : EReal) = ((∑ i, f i : ℝ) : EReal) :=
  (map_sum (⟨⟨(fun r : ℝ => (r : EReal)), EReal.coe_zero⟩, EReal.coe_add⟩ : ℝ →+ EReal) f Finset.univ).symm

/-- THE EQUATION. `t k p v` is knot `k`'s vector at patch element `p`, `g p v` the weight on its entry `v`, `a p` the
voxel there. -/
theorem equation (t : Fin 9 → Fin 64 → Fin 16 → EReal) (g : Fin 64 → Fin 16 → EReal) (a : Fin 64 → EReal)
    (ht : ∀ k p v, ∃ r : ℝ, t k p v = r) (hg : ∀ p v, ∃ r : ℝ, g p v = r) :
    ∑ k : Fin 9, ∑ p : Fin 64, (∑ v : Fin 16, t k p v * g p v) * hat (a p) k
      = ∑ p : Fin 64, ∑ v : Fin 16,
          (weight (a p) * t (cell (a p)).succ p v + (1 - weight (a p)) * t (cell (a p)).castSucc p v) * g p v := by
  choose t' ht using ht
  choose g' hg using hg
  choose w hw hh using fun p => hat_spec (a p)
  have one : (1 : EReal) = ((1 : ℝ) : EReal) := rfl
  simp only [ht, hg, hw, hh, e, one, ← EReal.coe_mul, ← EReal.coe_add, ← EReal.coe_sub, e_sum]
  refine congrArg _ ?_
  rw [Finset.sum_comm]
  refine Finset.sum_congr rfl fun p _ => ?_
  simp only [Finset.sum_mul]
  rw [Finset.sum_comm]
  refine Finset.sum_congr rfl fun v _ => ?_
  rw [← share_sum (cell (a p)) (w p) fun k => t' k p v, Finset.sum_mul]
  exact Finset.sum_congr rfl fun k _ => by ring

end Cert.Interp

end
-- ==== Proof.Finite.lean ====
module

public import proofs.«01_k».proof.Pre_finite
public import Idealize.ShloMosaic.PureOps.Ideal
public import Idealize.ShloMosaic.Lib.ReduceAll

@[expose] public section

/-! # The precondition, read at an element

Where `finite` holds of the arguments, every entry of the knots' vectors and of the weights is a real number. -/

noncomputable section

namespace Cert.Pre_finite

open Idealize.ShloMosaic

/-- The shape relations of the precondition's operations. -/
instance facts : Cert.Pre_finite.Facts where
  bcast_S_S9x64x16 := by decide
  reducesTo_S9x64x16_S_d0_1_2 := by decide
  h_S_ := by decide
  bcast_S_S768x1024 := by decide
  reducesTo_S768x1024_S_d0_1 := by decide

/-- An array without axes has one index. -/
instance : Subsingleton S_.Idx := ⟨fun _ _ => funext fun k => k.elim0⟩

/-- A value whose absolute value compares below infinity is a real number. -/
theorem real_of_abs_lt (x : Ideal .f32)
    (h : FloatOps.cmpf .olt (FloatOps.hostAbsf x) (FloatOps.ofBits (F := Ideal) .f32 0x7F800000#32) = 1#1) :
    ∃ r : ℝ, (x : EReal) = r := by
  have htop : Ideal.ofBits .f32 0x7F800000#32 = ⊤ := by simp [Ideal.ofBits, Ideal.ieee]
  change Ideal.cmp .olt (max (x : EReal) (-(x : EReal))) (Ideal.ofBits .f32 0x7F800000#32) = 1#1 at h
  rw [htop] at h
  change BitVec.ofBool (decide (max (x : EReal) (-(x : EReal)) < ⊤)) = 1#1 at h
  generalize (x : EReal) = a at h
  induction a using EReal.rec with
  | bot => simp at h
  | top => simp at h
  | coe r => exact ⟨r, rfl⟩

variable (x : FVec Ideal S2x1x96x96x96 .f32) (t : FVec Ideal S9x64x16 .f32) (g : FVec Ideal S768x1024 .f32)
  (d : FVec Ideal S768 .f32)

/-- Under the precondition the knots' vectors and the weights are real numbers. -/
theorem real_of_finite (h : fn (F := Ideal) x t g d = fun _ => 1#1) :
    (∀ i, ∃ r : ℝ, (t i : EReal) = r) ∧ ∀ i, ∃ r : ℝ, (g i : EReal) = r := by
  have h0 := congrFun h (fun k => k.elim0)
  obtain ⟨h1, h2⟩ := IntOp.andi_eq_one.1 h0
  exact ⟨fun i => real_of_abs_lt _ (Host.reduce_andi_all _ _ _ _ _ h1 i),
    fun i => real_of_abs_lt _ (Host.reduce_andi_all _ _ _ _ _ h2 i)⟩

end Cert.Pre_finite

end
-- ==== Proof.Agree.lean ====
module

public import proofs.«01_k».proof.Proof.KernelValue
public import proofs.«01_k».proof.Proof.RefValue
public import proofs.«01_k».proof.Proof.Equation
public import proofs.«01_k».proof.Proof.Finite

@[expose] public section

/-! # The kernel's result is the reference's

Both results at an index, brought together by the equation between their sums. -/

set_option maxRecDepth 16384

noncomputable section

namespace Cert.Agree

open Idealize.ShloMosaic Idealize.ShloMosaic.TcCoe
open Idealize.SL Idealize.SL.Sem
open Cert.KernelIdeal Cert.KernelIdeal.Gen Cert.KernelIdeal.Val Cert.Interp

variable (m : (ℓ : Loc nD τ sig) → Buf (Elt Ideal) ℓ) (ρ : Dev nD → PrngReg) (c : Dev nD)

/-- Under the precondition the kernel's last boundary holds, in the result array, what the reference computes of the
    same four arguments. -/
theorem result_eq (h : Cert.Pre_finite.fn (F := Ideal) (argX m c) (argT m c) (argW m c) (argB m c) = fun _ => 1#1) :
    (W5 m ρ c (Proc.devRef .tc main_v7) : Vec Ideal S2x768x24x24x24 .f32)
      = Cert.ReferenceIdeal.Read.val_main_v102 (F := Ideal) (argX m c) (argT m c) (argW m c) (argB m c) := by
  obtain ⟨ht, hg⟩ := Cert.Pre_finite.real_of_finite _ _ _ _ h
  funext i
  rw [eq_ix5 i]
  refine (result_apply m ρ c (i 0) (i 1) (i 2) (i 3) (i 4)).trans
    (Eq.trans ?_ (Cert.ReferenceIdeal.Val.result_apply (argX m c) (argT m c) (argW m c) (argB m c) (i 0) (i 1) (i 2) (i 3) (i 4)).symm)
  exact congrArg (fun s : EReal => s + argB m c (ix1 (i 1))) (equation
    (fun k p v => argT m c (ix3 k p v)) (fun p v => argW m c (ix2 (i 1) ⟨p.val * 16 + v.val, by omega⟩))
    (Cert.ReferenceIdeal.Val.voxel (argX m c) (i 0) (i 2) (i 3) (i 4)) (fun k p v => ht _) (fun p v => hg _))

end Cert.Agree

end
-- ==== Proof.lean ====
/- Assembles the certificate. -/
module

public import proofs.«01_k».proof.Defs
public import proofs.«01_k».proof.Proof.Gen.Kernel.Frame
public import proofs.«01_k».proof.Proof.Gen.KernelIdeal.Frame
public import proofs.«01_k».proof.Proof.Gen.ReferenceIdeal.Run
public import proofs.«01_k».proof.Proof.Gen.ReferenceIdeal.Read
public import proofs.«01_k».proof.Proof.KernelRun
public import proofs.«01_k».proof.Proof.Agree

@[expose] public section

namespace Cert.Proof

open Idealize.ShloMosaic Idealize.ShloMosaic.Tactic Idealize.SL Idealize.SL.Sem

/-- The kernel runs, leaves its arguments alone and its semaphores at zero. -/
theorem frame_kernel : Cert.quiescent_Kernel := fun m g _ => Cert.Kernel.Gen.frame m g

/-- So does the idealized kernel, from any memory. -/
theorem frame_ideal : Cert.quiescent_KernelIdeal := fun m g _ => Cert.KernelIdeal.Gen.frame m g

/-- So does the idealized kernel under the precondition. -/
theorem frame_ideal_finite : Cert.quiescent_KernelIdeal_pre_finite := fun m g _ => Cert.KernelIdeal.Gen.frame m g

/-- The reference runs and leaves its arguments alone; it declares no semaphore. -/
theorem frame_reference : Cert.quiescent_ReferenceIdeal := fun m g _ =>
  (θ_run Cert.ReferenceIdeal.defs _ _).mono
    (fun r h => ⟨fun c => (h c).2, sem_eq_zero_of_no_sems (by decide) r.2⟩)
    (Cert.ReferenceIdeal.Value.run m g)

/-- The reference under the precondition. -/
theorem frame_reference_finite : Cert.quiescent_ReferenceIdeal_pre_finite := fun m g _ => frame_reference m g trivial

/-- Each of the six reciprocals is a literal within its rounding. -/
theorem preserves : Cert.preserves_Kernel_KernelIdeal :=
  ⟨IdealRules.named_const.statement Cert.KernelIdeal.κ "inv925" .f32 0x3A8DB310#32 ((1 / 925 : ℝ) : EReal) rfl,
    IdealRules.named_const.statement Cert.KernelIdeal.κ "inv75" .f32 0x3C5A740E#32 ((1 / 75 : ℝ) : EReal) rfl,
    IdealRules.named_const.statement Cert.KernelIdeal.κ "inv15" .f32 0x3D888889#32 ((1 / 15 : ℝ) : EReal) rfl,
    IdealRules.named_const.statement Cert.KernelIdeal.κ "inv10" .f32 0x3DCCCCCD#32 ((1 / 10 : ℝ) : EReal) rfl,
    IdealRules.named_const.statement Cert.KernelIdeal.κ "inv150" .f32 0x3BDA740E#32 ((1 / 150 : ℝ) : EReal) rfl,
    IdealRules.named_const.statement Cert.KernelIdeal.κ "inv800" .f32 0x3AA3D70A#32 ((1 / 800 : ℝ) : EReal) rfl⟩

/-- The idealized kernel and the reference, from the same arguments, end with the same result. -/
theorem algebraic : Cert.algebraic_KernelIdeal_ReferenceIdeal_pre_finite := by
  intro m g m' g' hpre hagree
  refine ⟨_, Cert.KernelIdeal.Val.run m g, ?_⟩
  refine (θ_run Cert.ReferenceIdeal.defs _ _).mono (fun r h c => ⟨(h c).1.trans ?_, (h c).2⟩)
    (Cert.ReferenceIdeal.Value.run m' g')
  obtain ⟨h0, h1, h2, h3⟩ := hagree c
  rw [Cert.ReferenceIdeal.Read.val_main_v102_eq, h0, h1, h2, h3]
  exact (Cert.Agree.result_eq m g c (hpre c)).symm

/-- Everything that the certificate claims. -/
theorem claim : Cert.Claim :=
  ⟨Cert.Kernel.Gen.facts, Cert.KernelIdeal.Gen.facts, Cert.ReferenceIdeal.Gen.facts, Cert.Pre_finite.facts,
    frame_kernel, frame_ideal, frame_ideal_finite, frame_reference, frame_reference_finite, preserves, algebraic⟩

end Cert.Proof
